-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5)
      ∧ r.2.mem ((c.tc : Thread Cert.Up.nD Cert.Up.τ).loc Cert.Up.main_arg6) = m ((c.tc : Thread Cert.Up.nD Cert.Up.τ).loc Cert.Up.main_arg6)
      ∧ r.2.mem ((c.tc : Thread Cert.Up.nD Cert.Up.τ).loc Cert.Up.main_arg7) = m ((c.tc : Thread Cert.Up.nD Cert.Up.τ).loc Cert.Up.main_arg7))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
      ∧ r.2.mem ((c.tc : Thread Cert.UpIdeal.nD Cert.UpIdeal.τ).loc Cert.UpIdeal.main_arg6) = m ((c.tc : Thread Cert.UpIdeal.nD Cert.UpIdeal.τ).loc Cert.UpIdeal.main_arg6)
      ∧ r.2.mem ((c.tc : Thread Cert.UpIdeal.nD Cert.UpIdeal.τ).loc Cert.UpIdeal.main_arg7) = m ((c.tc : Thread Cert.UpIdeal.nD Cert.UpIdeal.τ).loc Cert.UpIdeal.main_arg7))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5)
      ∧ r.2.mem ((c.tc : Thread Cert.UpRefIdeal.nD Cert.UpRefIdeal.τ).loc Cert.UpRefIdeal.main_arg6) = m ((c.tc : Thread Cert.UpRefIdeal.nD Cert.UpRefIdeal.τ).loc Cert.UpRefIdeal.main_arg6)
      ∧ r.2.mem ((c.tc : Thread Cert.UpRefIdeal.nD Cert.UpRefIdeal.τ).loc Cert.UpRefIdeal.main_arg7) = m ((c.tc : Thread Cert.UpRefIdeal.nD Cert.UpRefIdeal.τ).loc Cert.UpRefIdeal.main_arg7))
      ∧ r.2.sem = fun _ => 0)

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v0)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v10) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v0)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v0) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v1) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)
      ∧ m' ((c.tc : Thread Cert.UpRefIdeal.nD Cert.UpRefIdeal.τ).loc Cert.UpRefIdeal.main_arg5) = m ((c.tc : Thread Cert.UpIdeal.nD Cert.UpIdeal.τ).loc Cert.UpIdeal.main_arg5)
      ∧ m' ((c.tc : Thread Cert.UpRefIdeal.nD Cert.UpRefIdeal.τ).loc Cert.UpRefIdeal.main_arg6) = m ((c.tc : Thread Cert.UpIdeal.nD Cert.UpIdeal.τ).loc Cert.UpIdeal.main_arg6)
      ∧ m' ((c.tc : Thread Cert.UpRefIdeal.nD Cert.UpRefIdeal.τ).loc Cert.UpRefIdeal.main_arg7) = m ((c.tc : Thread Cert.UpIdeal.nD Cert.UpIdeal.τ).loc Cert.UpIdeal.main_arg7)) →
    ∃ (v0 : (c : Dev Cert.UpIdeal.nD) → Buf (Elt Ideal) ((c.tc : Thread Cert.UpIdeal.nD Cert.UpIdeal.τ).loc Cert.UpIdeal.main_v29_0)) (v1 : (c : Dev Cert.UpIdeal.nD) → Buf (Elt Ideal) ((c.tc : Thread Cert.UpIdeal.nD Cert.UpIdeal.τ).loc Cert.UpIdeal.main_v30)) (v2 : (c : Dev Cert.UpIdeal.nD) → Buf (Elt Ideal) ((c.tc : Thread Cert.UpIdeal.nD Cert.UpIdeal.τ).loc Cert.UpIdeal.main_v29_2)) (v3 : (c : Dev Cert.UpIdeal.nD) → Buf (Elt Ideal) ((c.tc : Thread Cert.UpIdeal.nD Cert.UpIdeal.τ).loc Cert.UpIdeal.main_v32)) (v4 : (c : Dev Cert.UpIdeal.nD) → Buf (Elt Ideal) ((c.tc : Thread Cert.UpIdeal.nD Cert.UpIdeal.τ).loc Cert.UpIdeal.main_v29_4)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v29_0) = v0 c
          ∧ r.2.mem ((c.tc : Thread Cert.UpIdeal.nD Cert.UpIdeal.τ).loc Cert.UpIdeal.main_v30) = v1 c
          ∧ r.2.mem ((c.tc : Thread Cert.UpIdeal.nD Cert.UpIdeal.τ).loc Cert.UpIdeal.main_v29_2) = v2 c
          ∧ r.2.mem ((c.tc : Thread Cert.UpIdeal.nD Cert.UpIdeal.τ).loc Cert.UpIdeal.main_v32) = v3 c
          ∧ r.2.mem ((c.tc : Thread Cert.UpIdeal.nD Cert.UpIdeal.τ).loc Cert.UpIdeal.main_v29_4) = v4 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
          ∧ r.2.mem ((c.tc : Thread Cert.UpIdeal.nD Cert.UpIdeal.τ).loc Cert.UpIdeal.main_arg6) = m ((c.tc : Thread Cert.UpIdeal.nD Cert.UpIdeal.τ).loc Cert.UpIdeal.main_arg6)
          ∧ r.2.mem ((c.tc : Thread Cert.UpIdeal.nD Cert.UpIdeal.τ).loc Cert.UpIdeal.main_arg7) = m ((c.tc : Thread Cert.UpIdeal.nD Cert.UpIdeal.τ).loc Cert.UpIdeal.main_arg7))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v35) = v0 c
          ∧ r.2.mem ((c.tc : Thread Cert.UpRefIdeal.nD Cert.UpRefIdeal.τ).loc Cert.UpRefIdeal.main_v36) = v1 c
          ∧ r.2.mem ((c.tc : Thread Cert.UpRefIdeal.nD Cert.UpRefIdeal.τ).loc Cert.UpRefIdeal.main_v69) = v2 c
          ∧ r.2.mem ((c.tc : Thread Cert.UpRefIdeal.nD Cert.UpRefIdeal.τ).loc Cert.UpRefIdeal.main_v70) = v3 c
          ∧ r.2.mem ((c.tc : Thread Cert.UpRefIdeal.nD Cert.UpRefIdeal.τ).loc Cert.UpRefIdeal.main_v73) = v4 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4)
          ∧ r.2.mem ((c.tc : Thread Cert.UpRefIdeal.nD Cert.UpRefIdeal.τ).loc Cert.UpRefIdeal.main_arg5) = m' ((c.tc : Thread Cert.UpRefIdeal.nD Cert.UpRefIdeal.τ).loc Cert.UpRefIdeal.main_arg5)
          ∧ r.2.mem ((c.tc : Thread Cert.UpRefIdeal.nD Cert.UpRefIdeal.τ).loc Cert.UpRefIdeal.main_arg6) = m' ((c.tc : Thread Cert.UpRefIdeal.nD Cert.UpRefIdeal.τ).loc Cert.UpRefIdeal.main_arg6)
          ∧ r.2.mem ((c.tc : Thread Cert.UpRefIdeal.nD Cert.UpRefIdeal.τ).loc Cert.UpRefIdeal.main_arg7) = m' ((c.tc : Thread Cert.UpRefIdeal.nD Cert.UpRefIdeal.τ).loc Cert.UpRefIdeal.main_arg7))

def Claim : Prop :=
  ∃ (hDown : Cert.Down.Facts) (hDownIdeal : Cert.DownIdeal.Facts) (hDownRefIdeal : Cert.DownRefIdeal.Facts) (hGlu : Cert.Glu.Facts) (hGluIdeal : Cert.GluIdeal.Facts) (hGluRefIdeal : Cert.GluRefIdeal.Facts) (hOut : Cert.Out.Facts) (hOutIdeal : Cert.OutIdeal.Facts) (hOutRefIdeal : Cert.OutRefIdeal.Facts) (hQuery : Cert.Query.Facts) (hQueryIdeal : Cert.QueryIdeal.Facts) (hQueryRefIdeal : Cert.QueryRefIdeal.Facts) (hUp : Cert.Up.Facts) (hUpIdeal : Cert.UpIdeal.Facts) (hUpRefIdeal : Cert.UpRefIdeal.Facts),
    quiescent_Down (hDown := hDown)
    ∧ quiescent_DownIdeal (hDownIdeal := hDownIdeal)
    ∧ quiescent_DownRefIdeal (hDownRefIdeal := hDownRefIdeal)
    ∧ quiescent_Glu (hGlu := hGlu)
    ∧ quiescent_GluIdeal (hGluIdeal := hGluIdeal)
    ∧ quiescent_GluRefIdeal (hGluRefIdeal := hGluRefIdeal)
    ∧ quiescent_Out (hOut := hOut)
    ∧ quiescent_OutIdeal (hOutIdeal := hOutIdeal)
    ∧ quiescent_OutRefIdeal (hOutRefIdeal := hOutRefIdeal)
    ∧ quiescent_Query (hQuery := hQuery)
    ∧ quiescent_QueryIdeal (hQueryIdeal := hQueryIdeal)
    ∧ quiescent_QueryRefIdeal (hQueryRefIdeal := hQueryRefIdeal)
    ∧ quiescent_Up (hUp := hUp)
    ∧ quiescent_UpIdeal (hUpIdeal := hUpIdeal)
    ∧ quiescent_UpRefIdeal (hUpRefIdeal := hUpRefIdeal)
    ∧ preserves_Down_DownIdeal
    ∧ algebraic_DownIdeal_DownRefIdeal (hDownIdeal := hDownIdeal) (hDownRefIdeal := hDownRefIdeal)
    ∧ preserves_Glu_GluIdeal
    ∧ algebraic_GluIdeal_GluRefIdeal (hGluIdeal := hGluIdeal) (hGluRefIdeal := hGluRefIdeal)
    ∧ preserves_Out_OutIdeal
    ∧ algebraic_OutIdeal_OutRefIdeal (hOutIdeal := hOutIdeal) (hOutRefIdeal := hOutRefIdeal)
    ∧ preserves_Query_QueryIdeal
    ∧ algebraic_QueryIdeal_QueryRefIdeal (hQueryIdeal := hQueryIdeal) (hQueryRefIdeal := hQueryRefIdeal)
    ∧ preserves_Up_UpIdeal
    ∧ algebraic_UpIdeal_UpRefIdeal (hUpIdeal := hUpIdeal) (hUpRefIdeal := hUpRefIdeal)
-- ==== Down.lean ====
abbrev S8192x11008 : Shape := ⟨2, ![8192, 11008]⟩
abbrev S11008x4096 : Shape := ⟨2, ![11008, 4096]⟩
abbrev S8192x4096 : Shape := ⟨2, ![8192, 4096]⟩
abbrev S512x11008 : Shape := ⟨2, ![512, 11008]⟩
abbrev S11008x512 : Shape := ⟨2, ![11008, 512]⟩
abbrev S512x512 : Shape := ⟨2, ![512, 512]⟩
abbrev S128x11008 : Shape := ⟨2, ![128, 11008]⟩
abbrev S128x512 : Shape := ⟨2, ![128, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .bf16⟩
  | .hbm, ⟨2, _⟩ => ⟨S8192x4096, .f32⟩
  | .hbm, ⟨3, _⟩ => ⟨S8192x4096, .f32⟩
  | .local _ .vmem, ⟨0, _⟩ => ⟨S512x11008, .bf16⟩
  | .local _ .vmem, ⟨1, _⟩ => ⟨S512x11008, .bf16⟩
  | .local _ .vmem, ⟨2, _⟩ => ⟨S11008x512, .bf16⟩
  | .local _ .vmem, ⟨3, _⟩ => ⟨S11008x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S8192x11008 : Shape := ⟨2, ![8192, 11008]⟩
abbrev S11008x4096 : Shape := ⟨2, ![11008, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .bf16⟩
  | .hbm, ⟨2, _⟩ => ⟨S8192x4096, .f32⟩
  | .hbm, ⟨3, _⟩ => ⟨S8192x4096, .f32⟩
  | .hbm, ⟨4, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Glu.lean ====
abbrev S8192x4096 : Shape := ⟨2, ![8192, 4096]⟩
abbrev S4096x8192 : Shape := ⟨2, ![4096, 8192]⟩
abbrev S1024x4096 : Shape := ⟨2, ![1024, 4096]⟩
abbrev S4096x512 : Shape := ⟨2, ![4096, 512]⟩
abbrev S1024x512 : Shape := ⟨2, ![1024, 512]⟩
abbrev S128x4096 : Shape := ⟨2, ![128, 4096]⟩
abbrev S128x512 : Shape := ⟨2, ![128, 512]⟩

abbrev nBuf : Space → Nat
  | .hbm => 4
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S4096x8192, .bf16⟩
  | .hbm, ⟨2, _⟩ => ⟨S8192x4096, .f32⟩
  | .hbm, ⟨3, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GluRefIdeal.lean ====
abbrev S8192x4096 : Shape := ⟨2, ![8192, 4096]⟩
abbrev S4096x8192 : Shape := ⟨2, ![4096, 8192]⟩
abbrev S8192x8192 : Shape := ⟨2, ![8192, 8192]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x8192, .bf16⟩
  | .hbm, ⟨2, _⟩ => ⟨S8192x4096, .f32⟩
  | .hbm, ⟨3, _⟩ => ⟨S8192x8192, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Out.lean ====
abbrev S8192x4096 : Shape := ⟨2, ![8192, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩
abbrev S128x4096 : Shape := ⟨2, ![128, 4096]⟩
abbrev S128x1024 : Shape := ⟨2, ![128, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutRefIdeal.lean ====
abbrev S8192x4096 : Shape := ⟨2, ![8192, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S8192x4096, .f32⟩
  | .hbm, ⟨4, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Query.lean ====
abbrev S8192x4096 : Shape := ⟨2, ![8192, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩
abbrev S128x4096 : Shape := ⟨2, ![128, 4096]⟩
abbrev S128x1024 : Shape := ⟨2, ![128, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QueryRefIdeal.lean ====
abbrev S8192x4096 : Shape := ⟨2, ![8192, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Up.lean ====
abbrev S8192x4096 : Shape := ⟨2, ![8192, 4096]⟩
abbrev S32x4096 : Shape := ⟨2, ![32, 4096]⟩
abbrev S2x4096x22016 : Shape := ⟨3, ![2, 4096, 22016]⟩
abbrev S2x11008x4096 : Shape := ⟨3, ![2, 11008, 4096]⟩
abbrev S3x11008 : Shape := ⟨2, ![3, 11008]⟩
abbrev S11008 : Shape := ⟨1, ![11008]⟩
abbrev S4x2x11008 : Shape := ⟨3, ![4, 2, 11008]⟩
abbrev S8x2x11008 : Shape := ⟨3, ![8, 2, 11008]⟩
abbrev S_ : Shape := ⟨0, ![]⟩
abbrev S8x11008 : Shape := ⟨2, ![8, 11008]⟩
abbrev S1 : Shape := ⟨1, ![1]⟩
abbrev S1x11008 : Shape := ⟨2, ![1, 11008]⟩
abbrev S4x8x11008 : Shape := ⟨3, ![4, 8, 11008]⟩
abbrev S32 : Shape := ⟨1, ![32]⟩
abbrev S8x1x11008 : Shape := ⟨3, ![8, 1, 11008]⟩
abbrev S8x4x11008 : Shape := ⟨3, ![8, 4, 11008]⟩
abbrev S32x11008 : Shape := ⟨2, ![32, 11008]⟩
abbrev S32x1 : Shape := ⟨2, ![32, 1]⟩
abbrev S8192x11008 : Shape := ⟨2, ![8192, 11008]⟩
abbrev S8x8x11008 : Shape := ⟨3, ![8, 8, 11008]⟩
abbrev S11008x4096 : Shape := ⟨2, ![11008, 4096]⟩
abbrev S1024x4096 : Shape := ⟨2, ![1024, 4096]⟩
abbrev S1x4096x256 : Shape := ⟨3, ![1, 4096, 256]⟩
abbrev S8x256 : Shape := ⟨2, ![8, 256]⟩
abbrev S1x256 : Shape := ⟨2, ![1, 256]⟩
abbrev S32x256 : Shape := ⟨2, ![32, 256]⟩
abbrev S1x8x256 : Shape := ⟨3, ![1, 8, 256]⟩
abbrev S1x32x4096 : Shape := ⟨3, ![1, 32, 4096]⟩
abbrev S1024x256 : Shape := ⟨2, ![1024, 256]⟩
abbrev S4096x256 : Shape := ⟨2, ![4096, 256]⟩
abbrev S1032x256 : Shape := ⟨2, ![1032, 256]⟩
abbrev S128x4096 : Shape := ⟨2, ![128, 4096]⟩
abbrev S128x256 : Shape := ⟨2, ![128, 256]⟩
abbrev S136x256 : Shape := ⟨2, ![136, 256]⟩

abbrev nBuf : Space → Nat
  | .hbm => 82
  | .vmem => 39
  | .smem => 0
  | _ => 0

abbrev bufTy : (tb : Table) → Fin (tcTables nBuf tb) → BufTy
  | .hbm, ⟨0, _⟩ => ⟨S8192x4096, .bf16⟩
  | .hbm, ⟨1, _⟩ => ⟨S32x4096, .bf16⟩
  | .hbm, ⟨2, _⟩ => ⟨S2x4096x22016, .f32⟩
  | .hbm, ⟨3, _⟩ => ⟨S2x11008x4096, .f32⟩
  | .hbm, ⟨4, _⟩ => ⟨S3x11008, .f32⟩
  | .hbm, ⟨5, _⟩ => ⟨S11008, .f32⟩
  | .hbm, ⟨6, _⟩ => ⟨S4x2x11008, .f32⟩
  | .hbm, ⟨7, _⟩ => ⟨S8x2x11008, .f32⟩
  | .hbm, ⟨8, _⟩ => ⟨S_, .f32⟩
  | .hbm, ⟨9, _⟩ => ⟨S8x11008, .f32⟩
  | .hbm, ⟨10, _⟩ => ⟨S_, .i32⟩
  | .hbm, ⟨11, _⟩ => ⟨S1, .i32⟩
  | .hbm, ⟨12, _⟩ => ⟨S8x11008, .f32⟩
  | .hbm, ⟨13, _⟩ => ⟨S1x11008, .f32⟩
  | .hbm, ⟨14, _⟩ => ⟨S_, .f32⟩
  | .hbm, ⟨15, _⟩ => ⟨S4x8x11008, .f32⟩
  | .hbm, ⟨16, _⟩ => ⟨S_, .i32⟩
  | .hbm, ⟨17, _⟩ => ⟨S1, .i32⟩
  | .hbm, ⟨18, _⟩ => ⟨S4x8x11008, .f32⟩
  | .hbm, ⟨19, _⟩ => ⟨S32, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S_, .i32⟩
  | .hbm, ⟨29, _⟩ => ⟨S32, .i32⟩
  | .hbm, ⟨30, _⟩ => ⟨S32, .i1⟩
  | .hbm, ⟨31, _⟩ => ⟨S_, .i32⟩
  | .hbm, ⟨32, _⟩ => ⟨S32, .i32⟩
  | .hbm, ⟨33, _⟩ => ⟨S32, .i1⟩
  | .hbm, ⟨34, _⟩ => ⟨S_, .i32⟩
  | .hbm, ⟨35, _⟩ => ⟨S_, .i1⟩
  | .hbm, ⟨36, _⟩ => ⟨S32, .i1⟩
  | .hbm, ⟨37, _⟩ => ⟨S32, .i1⟩
  | .hbm, ⟨38, _⟩ => ⟨S32, .i1⟩
  | .hbm, ⟨39, _⟩ => ⟨S32, .i32⟩
  | .hbm, ⟨40, _⟩ => ⟨S32, .i32⟩
  | .hbm, ⟨41, _⟩ => ⟨S32, .i32⟩
  | .hbm, ⟨42, _⟩ => ⟨S8x1x11008, .f32⟩
  | .hbm, ⟨43, _⟩ => ⟨S8x11008, .f32⟩
  | .hbm, ⟨44, _⟩ => ⟨S8x4x11008, .f32⟩
  | .hbm, ⟨45, _⟩ => ⟨S32x11008, .f32⟩
  | .hbm, ⟨46, _⟩ => ⟨S8x1x11008, .f32⟩
  | .hbm, ⟨47, _⟩ => ⟨S8x11008, .f32⟩
  | .hbm, ⟨48, _⟩ => ⟨S8x4x11008, .f32⟩
  | .hbm, ⟨49, _⟩ => ⟨S32x11008, .f32⟩
  | .hbm, ⟨50, _⟩ => ⟨S_, .i32⟩
  | .hbm, ⟨51, _⟩ => ⟨S32, .i32⟩
  | .hbm, ⟨52, _⟩ => ⟨S32, .i1⟩
  | .hbm, ⟨53, _⟩ => ⟨S32x1, .i1⟩
  | .hbm, ⟨54, _⟩ => ⟨S_, .f32⟩
  | .hbm, ⟨55, _⟩ => ⟨S_, .f32⟩
  | .hbm, ⟨56, _⟩ => ⟨S32x11008, .i1⟩
  | .hbm, ⟨57, _⟩ => ⟨S32x11008, .f32⟩
  | .hbm, ⟨58, _⟩ => ⟨S32x11008, .f32⟩
  | .hbm, ⟨59, _⟩ => ⟨S_, .i32⟩
  | .hbm, ⟨60, _⟩ => ⟨S32, .i32⟩
  | .hbm, ⟨61, _⟩ => ⟨S32, .i1⟩
  | .hbm, ⟨62, _⟩ => ⟨S32x1, .i1⟩
  | .hbm, ⟨63, _⟩ => ⟨S_, .i32⟩
  | .hbm, ⟨64, _⟩ => ⟨S32, .i32⟩
  | .hbm, ⟨65, _⟩ => ⟨S32, .i1⟩
  | .hbm, ⟨66, _⟩ => ⟨S32x1, .i1⟩
  | .hbm, ⟨67, _⟩ => ⟨S_, .f32⟩
  | .hbm, ⟨68, _⟩ => ⟨S_, .f32⟩
  | .hbm, ⟨69, _⟩ => ⟨S32x11008, .i1⟩
  | .hbm, ⟨70, _⟩ => ⟨S32x11008, .f32⟩
  | .hbm, ⟨71, _⟩ => ⟨S32x11008, .f32⟩
  | .hbm, ⟨72, _⟩ => ⟨S32x11008, .i1⟩
  | .hbm, ⟨73, _⟩ => ⟨S32x11008, .f32⟩
  | .hbm, ⟨74, _⟩ => ⟨S8192x11008, .bf16⟩
  | .hbm, ⟨75, _⟩ => ⟨S8x8x11008, .f32⟩
  | .hbm, ⟨76, _⟩ => ⟨S32x11008, .bf16⟩
  | .hbm, ⟨77, _⟩ => ⟨S32x11008, .f32⟩
  | .hbm, ⟨78, _⟩ => ⟨S11008x4096, .bf16⟩
  | .hbm, ⟨79, _⟩ => ⟨S4x2x11008, .f32⟩
  | .hbm, ⟨80, _⟩ => ⟨S8x4x11008, .f32⟩
  | .hbm, ⟨81, _⟩ => ⟨S8x2x11008, .f32⟩
  | .local _ .vmem, ⟨0, _⟩ => ⟨S1024x4096, .bf16⟩
  | .local _ .vmem, ⟨1, _⟩ => ⟨S1024x4096, .bf16⟩
  | .local _ .vmem, ⟨2, _⟩ => ⟨S32x4096, .bf16⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x4096x256, .f32⟩
  | .local _ .vmem, ⟨7, _⟩ => ⟨S8x256, .f32⟩
  | .local _ .vmem, ⟨8, _⟩ => ⟨S8x256, .f32⟩
  | .local _ .vmem, ⟨9, _⟩ => ⟨S1x256, .f32⟩
  | .local _ .vmem, ⟨10, _⟩ => ⟨S1x256, .f32⟩
  | .local _ .vmem, ⟨11, _⟩ => ⟨S32x256, .f32⟩
  | .local _ .vmem, ⟨12, _⟩ => ⟨S32x256, .f32⟩
  | .local _ .vmem, ⟨13, _⟩ => ⟨S32x256, .f32⟩
  | .local _ .vmem, ⟨14, _⟩ => ⟨S32x256, .f32⟩
  | .local _ .vmem, ⟨15, _⟩ => ⟨S8x256, .f32⟩
  | .local _ .vmem, ⟨16, _⟩ => ⟨S8x256, .f32⟩
  | .local _ .vmem, ⟨17, _⟩ => ⟨S1x256, .f32⟩
  | .local _ .vmem, ⟨18, _⟩ => ⟨S1x256, .f32⟩
  | .local _ .vmem, ⟨19, _⟩ => ⟨S1x8x256, .f32⟩
  | .local _ .vmem, ⟨20, _⟩ => ⟨S1x8x256, .f32⟩
  | .local _ .vmem, ⟨21, _⟩ => ⟨S1x32x4096, .f32⟩
  | .local _ .vmem, ⟨22, _⟩ => ⟨S1x32x4096, .f32⟩
  | .local _ .vmem, ⟨23, _⟩ => ⟨S1024x256, .bf16⟩
  | .local _ .vmem, ⟨24, _⟩ => ⟨S1024x256, .bf16⟩
  | .local _ .vmem, ⟨25, _⟩ => ⟨S1x8x256, .f32⟩
  | .local _ .vmem, ⟨26, _⟩ => ⟨S1x8x256, .f32⟩
  | .local _ .vmem, ⟨27, _⟩ => ⟨S32x256, .bf16⟩
  | .local _ .vmem, ⟨28, _⟩ => ⟨S32x256, .bf16⟩
  | .local _ .vmem, ⟨29, _⟩ => ⟨S32x256, .f32⟩
  | .local _ .vmem, ⟨30, _⟩ => ⟨S32x256, .f32⟩
  | .local _ .vmem, ⟨31, _⟩ => ⟨S32x4096, .bf16⟩
  | .local _ .vmem, ⟨32, _⟩ => ⟨S32x4096, .bf16⟩
  | .local _ .vmem, ⟨33, _⟩ => ⟨S4096x256, .bf16⟩
  | .local _ .vmem, ⟨34, _⟩ => ⟨S4096x256, .bf16⟩
  | .local _ .vmem, ⟨35, _⟩ => ⟨S1024x256, .f32⟩
  | .local _ .vmem, ⟨36, _⟩ => ⟨S1032x256, .f32⟩
  | .local _ .vmem, ⟨37, _⟩ => ⟨S1024x256, .f32⟩
  | .local _ .vmem, ⟨38, _⟩ => ⟨S1032x256, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_1 : Ref sig .tc := ⟨.hbm, 28, rfl⟩
abbrev main_call0_v5 : Ref sig .tc := ⟨.hbm, 29, rfl⟩
abbrev main_call0_v6 : Ref sig .tc := ⟨.hbm, 30, rfl⟩
abbrev main_call0_c_2 : Ref sig .tc := ⟨.hbm, 31, rfl⟩
abbrev main_call0_v7 : Ref sig .tc := ⟨.hbm, 32, rfl⟩
abbrev main_call0_v8 : Ref sig .tc := ⟨.hbm, 33, rfl⟩
abbrev main_call0_c_3 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_c_3 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_cst_4 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v20 : Ref sig .tc := ⟨.hbm, 58, rfl⟩
abbrev main_c_5 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_c_6 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_cst_7 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v27 : Ref sig .tc := ⟨.hbm, 71, rfl⟩
abbrev main_call3_v0 : Ref sig .tc := ⟨.hbm, 72, rfl⟩
abbrev main_v28 : Ref sig .tc := ⟨.hbm, 73, rfl⟩
abbrev main_v29_0 : Ref sig .tc := ⟨.hbm, 74, rfl⟩
abbrev main_v29_1 : Ref sig .tc := ⟨.hbm, 75, rfl⟩
abbrev main_v29_2 : Ref sig .tc := ⟨.hbm, 76, rfl⟩
abbrev main_v29_3 : Ref sig .tc := ⟨.hbm, 77, rfl⟩
abbrev main_v29_4 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_scratch3 : Ref sig .tc := ⟨.vmem, 36, rfl⟩
abbrev cc0_scratch4 : Ref sig .tc := ⟨.vmem, 37, rfl⟩
abbrev cc0_scratch5 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32

abbrev nD : Nat := 1
abbrev τ : Topo := Topo.v7x

variable {F : FTy → Type} [FloatOps F]

abbrev grid0 : Pipeline.Grid := ⟨1, ![345], ![false]⟩

def k0_cond3 (i : grid0.Coords) : BitVec 1 :=
  let arg0 : BitVec 32 := BitVec.ofNat 32 (i 0).val
  let c1_i32 : BitVec 32 := 1#32
  let v7 : BitVec 32 := Scalar.andi arg0 c1_i32
  let c0_i32_3 : BitVec 32 := 0#32
  let v8 : BitVec 1 := Scalar.cmpi .eq v7 c0_i32_3
  let v9 : BitVec 32 := Scalar.extui v8
  let c0_i32_4 : BitVec 32 := 0#32
  let v10 : BitVec 1 := Scalar.cmpi .ne v9 c0_i32_4
  v10

def k0_cond4 (i : grid0.Coords) : BitVec 1 :=
  let arg0 : BitVec 32 := BitVec.ofNat 32 (i 0).val
  let c1_i32 : BitVec 32 := 1#32
  let v7 : BitVec 32 := Scalar.andi arg0 c1_i32
  let c1_i32_5 : BitVec 32 := 1#32
  let v11 : BitVec 1 := Scalar.cmpi .eq v7 c1_i32_5
  let v12 : BitVec 32 := Scalar.extui v11
  let c0_i32_6 : BitVec 32 := 0#32
  let v13 : BitVec 1 := Scalar.cmpi .ne v12 c0_i32_6
  v13

def k0_cond2 (i : grid0.Coords) : BitVec 1 :=
  let arg0 : BitVec 32 := BitVec.ofNat 32 (i 0).val
  let c7_i32 : BitVec 32 := 7#32
  let v0 : BitVec 32 := Scalar.andi arg0 c7_i32
  let c0_i32_1 : BitVec 32 := 0#32
  let v4 : BitVec 1 := Scalar.cmpi .eq v0 c0_i32_1
  let v5 : BitVec 32 := Scalar.extui v4
  let c0_i32_2 : BitVec 32 := 0#32
  let v6 : BitVec 1 := Scalar.cmpi .ne v5 c0_i32_2
  v6

def cc0_transform_0 (i : grid0.Coords) : Fin 2 → Nat :=
  let arg0 : BitVec 32 := BitVec.ofNat 32 (i 0).val
  let c7_i32 : BitVec 32 := 7#32
  let v0 : BitVec 32 := Scalar.andi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c3_i32 : BitVec 32 := 3#32
  let v0 : BitVec 32 := Scalar.shrsi arg0 c3_i32
  let c42_i32 : BitVec 32 := 42#32
  let v1 : BitVec 32 := Scalar.minsi v0 c42_i32
  let c0_i32 : BitVec 32 := 0#32
  let c0_i32_0 : BitVec 32 := 0#32
  let c0_i32_1 : BitVec 32 := 0#32
  ![c0_i32.toNat, c0_i32_0.toNat, v1.toNat]

def cc0_transform_3 (i : grid0.Coords) : Fin 3 → Nat :=
  let arg0 : BitVec 32 := BitVec.ofNat 32 (i 0).val
  let c3_i32 : BitVec 32 := 3#32
  let v0 : BitVec 32 := Scalar.shrsi arg0 c3_i32
  let c42_i32 : BitVec 32 := 42#32
  let v1 : BitVec 32 := Scalar.minsi v0 c42_i32
  let c43_i32 : BitVec 32 := 43#32
  let v2 : BitVec 32 := Scalar.addi v1 c43_i32
  let c0_i32 : BitVec 32 := 0#32
  let c0_i32_0 : BitVec 32 := 0#32
  let c0_i32_1 : BitVec 32 := 0#32
  ![c0_i32.toNat, c0_i32_0.toNat, v2.toNat]

def cc0_transform_4 (i : grid0.Coords) : Fin 2 → Nat :=
  let arg0 : BitVec 32 := BitVec.ofNat 32 (i 0).val
  let c3_i32 : BitVec 32 := 3#32
  let v0 : BitVec 32 := Scalar.shrsi arg0 c3_i32
  let c42_i32 : BitVec 32 := 42#32
  let v1 : BitVec 32 := Scalar.minsi v0 c42_i32
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let c3_i32 : BitVec 32 := 3#32
  let v0 : BitVec 32 := Scalar.shrsi arg0 c3_i32
  let c42_i32 : BitVec 32 := 42#32
  let v1 : BitVec 32 := Scalar.minsi v0 c42_i32
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let c3_i32 : BitVec 32 := 3#32
  let v0 : BitVec 32 := Scalar.shrsi arg0 c3_i32
  let c42_i32 : BitVec 32 := 42#32
  let v1 : BitVec 32 := Scalar.minsi v0 c42_i32
  let c0_i32 : BitVec 32 := 0#32
  let c0_i32_0 : BitVec 32 := 0#32
  ![c0_i32.toNat, v1.toNat]

def cc0_transform_7 (i : grid0.Coords) : Fin 2 → Nat :=
  let arg0 : BitVec 32 := BitVec.ofNat 32 (i 0).val
  let c3_i32 : BitVec 32 := 3#32
  let v0 : BitVec 32 := Scalar.shrsi arg0 c3_i32
  let c42_i32 : BitVec 32 := 42#32
  let v1 : BitVec 32 := Scalar.minsi v0 c42_i32
  let c0_i32 : BitVec 32 := 0#32
  let c0_i32_0 : BitVec 32 := 0#32
  ![c0_i32.toNat, v1.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c7_i32 : BitVec 32 := 7#32
  let v2 : BitVec 32 := Scalar.andi v1 c7_i32
  let c3_i32 : BitVec 32 := 3#32
  let v3 : BitVec 32 := Scalar.shrsi v1 c3_i32
  let c0_i32_0 : BitVec 32 := 0#32
  let c0_i32_1 : BitVec 32 := 0#32
  ![c0_i32_0.toNat, v3.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c7_i32 : BitVec 32 := 7#32
  let v2 : BitVec 32 := Scalar.andi v1 c7_i32
  let c3_i32 : BitVec 32 := 3#32
  let v3 : BitVec 32 := Scalar.shrsi v1 c3_i32
  let c0_i32_0 : BitVec 32 := 0#32
  let c0_i32_1 : BitVec 32 := 0#32
  ![c0_i32_0.toNat, v3.toNat]

def cc0_transform_10 (i : grid0.Coords) : Fin 3 → Nat :=
  let arg0 : BitVec 32 := BitVec.ofNat 32 (i 0).val
  let c7_i32 : BitVec 32 := 7#32
  let v0 : BitVec 32 := Scalar.andi arg0 c7_i32
  let c1_i32 : BitVec 32 := 1#32
  let v1 : BitVec 32 := Scalar.shrsi v0 c1_i32
  let c3_i32 : BitVec 32 := 3#32
  let v2 : BitVec 32 := Scalar.shrsi arg0 c3_i32
  let c42_i32 : BitVec 32 := 42#32
  let v3 : BitVec 32 := Scalar.minsi v2 c42_i32
  let c0_i32 : BitVec 32 := 0#32
  let c0_i32_0 : BitVec 32 := 0#32
  ![v1.toNat, c0_i32.toNat, v3.toNat]

def cc0_transform_11 (i : grid0.Coords) : Fin 3 → Nat :=
  let arg0 : BitVec 32 := BitVec.ofNat 32 (i 0).val
  let c343_i32 : BitVec 32 := 343#32
  let v0 : BitVec 32 := Scalar.minsi arg0 c343_i32
  let c0_i32 : BitVec 32 := 0#32
  let c0_i32_0 : BitVec 32 := 0#32
  let c0_i32_1 : BitVec 32 := 0#32
  ![c0_i32.toNat, v0.toNat, c0_i32_0.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c7_i32 : BitVec 32 := 7#32
  let v2 : BitVec 32 := Scalar.andi v1 c7_i32
  let c3_i32 : BitVec 32 := 3#32
  let v3 : BitVec 32 := Scalar.shrsi v1 c3_i32
  let c0_i32_0 : BitVec 32 := 0#32
  ![v2.toNat, v3.toNat]

def cc0_transform_13 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c7_i32 : BitVec 32 := 7#32
  let v2 : BitVec 32 := Scalar.andi v1 c7_i32
  let c3_i32 : BitVec 32 := 3#32
  let v3 : BitVec 32 := Scalar.shrsi v1 c3_i32
  let c1_i32_0 : BitVec 32 := 1#32
  let v4 : BitVec 32 := Scalar.subi arg0 c1_i32_0
  let c0_i32_1 : BitVec 32 := 0#32
  let v5 : BitVec 32 := Scalar.maxsi v4 c0_i32_1
  let c7_i32_2 : BitVec 32 := 7#32
  let v6 : BitVec 32 := Scalar.andi v5 c7_i32_2
  let c3_i32_3 : BitVec 32 := 3#32
  let v7 : BitVec 32 := Scalar.shrsi v5 c3_i32_3
  let c0_i32_4 : BitVec 32 := 0#32
  let c0_i32_5 : BitVec 32 := 0#32
  ![v2.toNat, c0_i32_4.toNat, v7.toNat]

def cc0_transform_14 (i : grid0.Coords) : Fin 2 → Nat :=
  let arg0 : BitVec 32 := BitVec.ofNat 32 (i 0).val
  let c3_i32 : BitVec 32 := 3#32
  let v0 : BitVec 32 := Scalar.shrsi arg0 c3_i32
  let c42_i32 : BitVec 32 := 42#32
  let v1 : BitVec 32 := Scalar.minsi v0 c42_i32
  let c0_i32 : BitVec 32 := 0#32
  let c0_i32_0 : BitVec 32 := 0#32
  ![c0_i32.toNat, v1.toNat]

def cc0_transform_15 (i : grid0.Coords) : Fin 2 → Nat :=
  let arg0 : BitVec 32 := BitVec.ofNat 32 (i 0).val
  let c3_i32 : BitVec 32 := 3#32
  let v0 : BitVec 32 := Scalar.shrsi arg0 c3_i32
  let c42_i32 : BitVec 32 := 42#32
  let v1 : BitVec 32 := Scalar.minsi v0 c42_i32
  let c0_i32 : BitVec 32 := 0#32
  let c0_i32_0 : BitVec 32 := 0#32
  ![c0_i32.toNat, v1.toNat]

def cc0_transform_16 (i : grid0.Coords) : Fin 2 → Nat :=
  let arg0 : BitVec 32 := BitVec.ofNat 32 (i 0).val
  let c343_i32 : BitVec 32 := 343#32
  let v0 : BitVec 32 := Scalar.minsi arg0 c343_i32
  let c0_i32 : BitVec 32 := 0#32
  let c0_i32_0 : BitVec 32 := 0#32
  ![v0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x32x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S32x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S32x4096 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== UpRefIdeal.lean ====
abbrev S8192x4096 : Shape := ⟨2, ![8192, 4096]⟩
abbrev S32x4096 : Shape := ⟨2, ![32, 4096]⟩
abbrev S2x4096x22016 : Shape := ⟨3, ![2, 4096, 22016]⟩
abbrev S2x11008x4096 : Shape := ⟨3, ![2, 11008, 4096]⟩
abbrev S3x11008 : Shape := ⟨2, ![3, 11008]⟩
abbrev S11008 : Shape := ⟨1, ![11008]⟩
abbrev S4x2x11008 : Shape := ⟨3, ![4, 2, 11008]⟩
abbrev S8x2x11008 : Shape := ⟨3, ![8, 2, 11008]⟩
abbrev S1x4096x22016 : Shape := ⟨3, ![1, 4096, 22016]⟩
abbrev S4096x22016 : Shape := ⟨2, ![4096, 22016]⟩
abbrev S8192x22016 : Shape := ⟨2, ![8192, 22016]⟩
abbrev S8192x11008 : Shape := ⟨2, ![8192, 11008]⟩
abbrev S4x2048x11008 : Shape := ⟨3, ![4, 2048, 11008]⟩
abbrev S4x2050x11008 : Shape := ⟨3, ![4, 2050, 11008]⟩
abbrev S1x11008 : Shape := ⟨2, ![1, 11008]⟩
abbrev S1x1x11008 : Shape := ⟨3, ![1, 1, 11008]⟩
abbrev S_ : Shape := ⟨0, ![]⟩
abbrev S32x22016 : Shape := ⟨2, ![32, 22016]⟩
abbrev S32x11008 : Shape := ⟨2, ![32, 11008]⟩
abbrev S8x4x11008 : Shape := ⟨3, ![8, 4, 11008]⟩
abbrev S8x6x11008 : Shape := ⟨3, ![8, 6, 11008]⟩
abbrev S1x11008x4096 : Shape := ⟨3, ![1, 11008, 4096]⟩
abbrev S11008x4096 : Shape := ⟨2, ![11008, 4096]⟩

abbrev nBuf : Space → Nat
  | .hbm => 98
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S32x4096, .bf16⟩
  | .hbm, ⟨2, _⟩ => ⟨S2x4096x22016, .f32⟩
  | .hbm, ⟨3, _⟩ => ⟨S2x11008x4096, .f32⟩
  | .hbm, ⟨4, _⟩ => ⟨S3x11008, .f32⟩
  | .hbm, ⟨5, _⟩ => ⟨S11008, .f32⟩
  | .hbm, ⟨6, _⟩ => ⟨S4x2x11008, .f32⟩
  | .hbm, ⟨7, _⟩ => ⟨S8x2x11008, .f32⟩
  | .hbm, ⟨8, _⟩ => ⟨S1x4096x22016, .f32⟩
  | .hbm, ⟨9, _⟩ => ⟨S4096x22016, .f32⟩
  | .hbm, ⟨10, _⟩ => ⟨S4096x22016, .bf16⟩
  | .hbm, ⟨11, _⟩ => ⟨S8192x22016, .f32⟩
  | .hbm, ⟨12, _⟩ => ⟨S8192x11008, .f32⟩
  | .hbm, ⟨13, _⟩ => ⟨S4x2048x11008, .f32⟩
  | .hbm, ⟨14, _⟩ => ⟨S8192x11008, .f32⟩
  | .hbm, ⟨15, _⟩ => ⟨S4x2048x11008, .f32⟩
  | .hbm, ⟨16, _⟩ => ⟨S4x2050x11008, .f32⟩
  | .hbm, ⟨17, _⟩ => ⟨S1x11008, .f32⟩
  | .hbm, ⟨18, _⟩ => ⟨S11008, .f32⟩
  | .hbm, ⟨19, _⟩ => ⟨S4x2048x11008, .f32⟩
  | .hbm, ⟨20, _⟩ => ⟨S1x1x11008, .f32⟩
  | .hbm, ⟨21, _⟩ => ⟨S4x2048x11008, .f32⟩
  | .hbm, ⟨22, _⟩ => ⟨S4x2048x11008, .f32⟩
  | .hbm, ⟨23, _⟩ => ⟨S1x1x11008, .f32⟩
  | .hbm, ⟨24, _⟩ => ⟨S4x2048x11008, .f32⟩
  | .hbm, ⟨25, _⟩ => ⟨S4x2048x11008, .f32⟩
  | .hbm, ⟨26, _⟩ => ⟨S1x11008, .f32⟩
  | .hbm, ⟨27, _⟩ => ⟨S11008, .f32⟩
  | .hbm, ⟨28, _⟩ => ⟨S4x2048x11008, .f32⟩
  | .hbm, ⟨29, _⟩ => ⟨S1x1x11008, .f32⟩
  | .hbm, ⟨30, _⟩ => ⟨S4x2048x11008, .f32⟩
  | .hbm, ⟨31, _⟩ => ⟨S4x2048x11008, .f32⟩
  | .hbm, ⟨32, _⟩ => ⟨S4x2048x11008, .f32⟩
  | .hbm, ⟨33, _⟩ => ⟨S1x11008, .f32⟩
  | .hbm, ⟨34, _⟩ => ⟨S11008, .f32⟩
  | .hbm, ⟨35, _⟩ => ⟨S4x2048x11008, .f32⟩
  | .hbm, ⟨36, _⟩ => ⟨S1x1x11008, .f32⟩
  | .hbm, ⟨37, _⟩ => ⟨S4x2048x11008, .f32⟩
  | .hbm, ⟨38, _⟩ => ⟨S4x2048x11008, .f32⟩
  | .hbm, ⟨39, _⟩ => ⟨S4x2048x11008, .f32⟩
  | .hbm, ⟨40, _⟩ => ⟨S4x2048x11008, .f32⟩
  | .hbm, ⟨41, _⟩ => ⟨S4x2048x11008, .f32⟩
  | .hbm, ⟨42, _⟩ => ⟨S_, .f32⟩
  | .hbm, ⟨43, _⟩ => ⟨S4x2048x11008, .f32⟩
  | .hbm, ⟨44, _⟩ => ⟨S4x2048x11008, .f32⟩
  | .hbm, ⟨45, _⟩ => ⟨S_, .f32⟩
  | .hbm, ⟨46, _⟩ => ⟨S4x2048x11008, .f32⟩
  | .hbm, ⟨47, _⟩ => ⟨S4x2048x11008, .f32⟩
  | .hbm, ⟨48, _⟩ => ⟨S4x2048x11008, .f32⟩
  | .hbm, ⟨49, _⟩ => ⟨S4x2048x11008, .f32⟩
  | .hbm, ⟨50, _⟩ => ⟨S4x2048x11008, .bf16⟩
  | .hbm, ⟨51, _⟩ => ⟨S8192x11008, .bf16⟩
  | .hbm, ⟨52, _⟩ => ⟨S4x2x11008, .f32⟩
  | .hbm, ⟨53, _⟩ => ⟨S32x22016, .f32⟩
  | .hbm, ⟨54, _⟩ => ⟨S32x11008, .f32⟩
  | .hbm, ⟨55, _⟩ => ⟨S8x4x11008, .f32⟩
  | .hbm, ⟨56, _⟩ => ⟨S32x11008, .f32⟩
  | .hbm, ⟨57, _⟩ => ⟨S8x4x11008, .f32⟩
  | .hbm, ⟨58, _⟩ => ⟨S8x6x11008, .f32⟩
  | .hbm, ⟨59, _⟩ => ⟨S1x11008, .f32⟩
  | .hbm, ⟨60, _⟩ => ⟨S11008, .f32⟩
  | .hbm, ⟨61, _⟩ => ⟨S8x4x11008, .f32⟩
  | .hbm, ⟨62, _⟩ => ⟨S1x1x11008, .f32⟩
  | .hbm, ⟨63, _⟩ => ⟨S8x4x11008, .f32⟩
  | .hbm, ⟨64, _⟩ => ⟨S8x4x11008, .f32⟩
  | .hbm, ⟨65, _⟩ => ⟨S1x1x11008, .f32⟩
  | .hbm, ⟨66, _⟩ => ⟨S8x4x11008, .f32⟩
  | .hbm, ⟨67, _⟩ => ⟨S8x4x11008, .f32⟩
  | .hbm, ⟨68, _⟩ => ⟨S1x11008, .f32⟩
  | .hbm, ⟨69, _⟩ => ⟨S11008, .f32⟩
  | .hbm, ⟨70, _⟩ => ⟨S8x4x11008, .f32⟩
  | .hbm, ⟨71, _⟩ => ⟨S1x1x11008, .f32⟩
  | .hbm, ⟨72, _⟩ => ⟨S8x4x11008, .f32⟩
  | .hbm, ⟨73, _⟩ => ⟨S8x4x11008, .f32⟩
  | .hbm, ⟨74, _⟩ => ⟨S8x4x11008, .f32⟩
  | .hbm, ⟨75, _⟩ => ⟨S1x11008, .f32⟩
  | .hbm, ⟨76, _⟩ => ⟨S11008, .f32⟩
  | .hbm, ⟨77, _⟩ => ⟨S8x4x11008, .f32⟩
  | .hbm, ⟨78, _⟩ => ⟨S1x1x11008, .f32⟩
  | .hbm, ⟨79, _⟩ => ⟨S8x4x11008, .f32⟩
  | .hbm, ⟨80, _⟩ => ⟨S8x4x11008, .f32⟩
  | .hbm, ⟨81, _⟩ => ⟨S8x4x11008, .f32⟩
  | .hbm, ⟨82, _⟩ => ⟨S8x4x11008, .f32⟩
  | .hbm, ⟨83, _⟩ => ⟨S8x4x11008, .f32⟩
  | .hbm, ⟨84, _⟩ => ⟨S_, .f32⟩
  | .hbm, ⟨85, _⟩ => ⟨S8x4x11008, .f32⟩
  | .hbm, ⟨86, _⟩ => ⟨S8x4x11008, .f32⟩
  | .hbm, ⟨87, _⟩ => ⟨S_, .f32⟩
  | .hbm, ⟨88, _⟩ => ⟨S8x4x11008, .f32⟩
  | .hbm, ⟨89, _⟩ => ⟨S8x4x11008, .f32⟩
  | .hbm, ⟨90, _⟩ => ⟨S8x4x11008, .f32⟩
  | .hbm, ⟨91, _⟩ => ⟨S8x4x11008, .f32⟩
  | .hbm, ⟨92, _⟩ => ⟨S8x4x11008, .bf16⟩
  | .hbm, ⟨93, _⟩ => ⟨S32x11008, .bf16⟩
  | .hbm, ⟨94, _⟩ => ⟨S8x2x11008, .f32⟩
  | .hbm, ⟨95, _⟩ => ⟨S1x11008x4096, .f32⟩
  | .hbm, ⟨96, _⟩ => ⟨S11008x4096, .f32⟩
  | .hbm, ⟨97, _⟩ => ⟨S11008x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_call1_v0 : Ref sig .tc := ⟨.hbm, 82, rfl⟩
abbrev main_call1_v1 : Ref sig .tc := ⟨.hbm, 83, rfl⟩
abbrev main_call1_cst : Ref sig .tc := ⟨.hbm, 84, rfl⟩
abbrev main_call1_v2 : Ref sig .tc := ⟨.hbm, 85, rfl⟩
abbrev main_call1_v3 : Ref sig .tc := ⟨.hbm, 86, rfl⟩
abbrev main_call1_cst_0 : Ref sig .tc := ⟨.hbm, 87, rfl⟩
abbrev main_call1_v4 : Ref sig .tc := ⟨.hbm, 88, rfl⟩
abbrev main_call1_v5 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩

abbrev nD : Nat := 1
abbrev τ : Topo := Topo.v7x

variable {F : FTy → Type} [FloatOps F]
-- ==== Proof.DownBlock.lean ====
/-
  The down projection with its residual: the result array of the tiled product, element by element. Each grid point holds 512 rows
  of the activations, 512 columns of the weights and one 512 × 512 tile of the residual; the body works through the tile
  in four chunks of 128 rows.
-/
module

public import proofs.«01_k».proof.Defs
public import proofs.«01_k».proof.Proof.Gen.DownIdeal.Value
public import proofs.«01_k».proof.Proof.Gen.DownRefIdeal.Run
public import Idealize.ShloMosaic.Lib.MatmulPlain
public import Idealize.ShloMosaic.Lib.StackMember
public import Idealize.ShloMosaic.Lib.Quiescent

@[expose] public section

set_option maxRecDepth 16384

noncomputable section

namespace Cert.DownIdeal.Block

open Cert.DownIdeal Cert.DownIdeal.Gen Idealize.ShloMosaic Idealize.ShloMosaic.TcCoe Idealize.SL.Sem
open Idealize.ShloMosaic.ValueIdx Idealize.ShloMosaic.StackMember

/-- One element of the product of two matrices plus a residual. -/
def elt {M K N : ℕ} (x : Vec Ideal ⟨2, ![M, K]⟩ .bf16) (w : Vec Ideal ⟨2, ![K, N]⟩ .bf16) (r : Vec Ideal ⟨2, ![M, N]⟩ .f32)
    (i : (⟨2, ![M, N]⟩ : Shape).Idx) : EReal :=
  r i + ∑ k : Fin K, x (ix2 (i 0) k) * w (ix2 k (i 1))

/-- The zero accumulator adds nothing to a chunk's product. -/
theorem chunk (x : Vec Ideal S128x11008 .bf16) (w : Vec Ideal S11008x512 .bf16) (a : Fin 128) (b : Fin 512) :
    FloatOps.matmul (φ₁ := .bf16) (φ₂ := .bf16) dot_S128x11008_S11008x512_S128x512_1_0_0_1_n_n none x w (constant (F := Ideal) S128x512 .f32 0x00000000#32) (ix2 a b)
      = ∑ k : Fin 11008, x (ix2 a k) * w (ix2 k b) := by
  refine (Ideal.matmul_plain_apply (M := 128) (K := 11008) (N := 512) none x w _ a b).trans ?_
  show Ideal.ofBits .f32 0x00000000#32 + _ = _
  rw [Ideal.ofBits_zero_f32, zero_add]

/-- A chunk's payload at an index, whichever of the four chunks it is. -/
theorem pay (o : ℕ) (h0 h2 : _) (x : Vec Ideal S512x11008 .bf16) (w : Vec Ideal S11008x512 .bf16) (r : Vec Ideal S512x512 .f32)
    (y : S128x512.Idx) :
    k0_pay2 (View.ld x (Rect.unit (s := S512x11008) ![o, 0] S128x11008.size h0)) (View.ld w r0_1)
        (View.ld r (Rect.unit (s := S512x512) ![o, 0] S128x512.size h2)) y
      = elt x w r ((Rect.unit (s := S512x512) ![o, 0] S128x512.size h2).emb y) := by
  obtain ⟨a, b, rfl⟩ : ∃ (a : Fin 128) (b : Fin 512), y = ix2 a b := ⟨y 0, y 1, eq_ix2 y⟩
  show _ + _ = _ + _
  refine congrArg₂ (· + ·) rfl ((chunk _ _ a b).trans (Finset.sum_congr rfl fun k _ => ?_))
  refine congrArg₂ (· * ·) (congrArg x ?_) (congrArg w ?_)
  · funext d; apply Fin.ext
    match d with
    | ⟨0, _⟩ => rfl
    | ⟨1, _⟩ => simp [LoadRect.idx_apply]
  · funext d; apply Fin.ext
    match d with
    | ⟨0, _⟩ => simp [LoadRect.idx_apply]
    | ⟨1, _⟩ => simp [LoadRect.idx_apply, Rect.emb_apply]

/-- What the body leaves in the output tile, at any index of it. -/
theorem out_apply (x : Vec Ideal S512x11008 .bf16) (w : Vec Ideal S11008x512 .bf16) (r : Vec Ideal S512x512 .f32) (y : S512x512.Idx) :
    out0_3 x w r y = elt x w r y := by
  unfold out0_3
  refine View.canon_apply_of_pieces (Val := Elt Ideal) (S := S512x512) (e := .f32) (elt (M := 512) (K := 11008) (N := 512) x w r) _ ?_ y (cover0_3 _ _ _ _ y)
  intro p hp z
  simp only [List.mem_cons, List.mem_singleton, List.not_mem_nil, or_false] at hp
  rcases hp with rfl | rfl | rfl | rfl
  · exact pay 384 _ _ x w r z
  · exact pay 256 _ _ x w r z
  · exact pay 128 _ _ x w r z
  · exact pay 0 _ _ x w r z

variable (m : (ℓ : Loc nD τ sig) → Buf (Elt Ideal) ℓ) (ρ : Dev nD → PrngReg)

/-- The whole result of device `c`'s three argument arrays. -/
abbrev whole (c : Dev nD) : Buf (Elt Ideal) ((c : Thread nD τ).loc main_v0) :=
  elt (M := 8192) (K := 11008) (N := 4096) (m ((c : Thread nD τ).loc main_arg0)) (m ((c : Thread nD τ).loc main_arg1))
    (m ((c : Thread nD τ).loc main_arg2))

/-- Where the blocks of the four windows lie at a point: the row of tiles `t / 8`, the column of tiles `t % 8`. -/
theorem offs : ∀ t : Fin cfg0.N, win0_0.index t 0 = t.val / 8 ∧ win0_0.index t 1 = 0 ∧ win0_1.index t 0 = 0
    ∧ win0_1.index t 1 = t.val % 8 ∧ win0_2.index t 0 = t.val / 8 ∧ win0_2.index t 1 = t.val % 8
    ∧ win0_3.index t 0 = t.val / 8 ∧ win0_3.index t 1 = t.val % 8 :=
  (by decide +kernel : ∀ t : Fin grid0.N, win0_0.index t 0 = t.val / 8 ∧ win0_0.index t 1 = 0 ∧ win0_1.index t 0 = 0
    ∧ win0_1.index t 1 = t.val % 8 ∧ win0_2.index t 0 = t.val / 8 ∧ win0_2.index t 1 = t.val % 8
    ∧ win0_3.index t 0 = t.val / 8 ∧ win0_3.index t 1 = t.val % 8)

/-- What a point writes back is its tile of the whole result. -/
theorem flushed_eq (c : Dev nD) (t : Fin cfg0.N) :
    (dats m 0 c).flushed 3 t = (win0_3.blk t).view.read (Elt Ideal) (whole m c) := by
  rw [Value.flushed3]
  obtain ⟨e00, e01, e10, e11, e20, e21, e30, e31⟩ := offs t
  funext y
  refine (out_apply _ _ _ _).trans ?_
  show _ + _ = _ + _
  refine congrArg₂ (· + ·) ?_ (Finset.sum_congr rfl fun k _ => congrArg₂ (· * ·) ?_ ?_)
  · show m _ _ = m _ _
    refine congrArg (m ((c : Thread nD τ).loc main_arg2)) ?_
    funext d; apply Fin.ext
    match d with
    | ⟨0, _⟩ => show win0_2.index t 0 * 512 + 1 * (y 0).val = win0_3.index t 0 * 512 + 1 * (y 0).val; rw [e20, e30]
    | ⟨1, _⟩ => show win0_2.index t 1 * 512 + 1 * (y 1).val = win0_3.index t 1 * 512 + 1 * (y 1).val; rw [e21, e31]
  · refine congrArg (m ((c : Thread nD τ).loc main_arg0)) ?_
    funext d; apply Fin.ext
    match d with
    | ⟨0, _⟩ => show win0_0.index t 0 * 512 + 1 * (y 0).val = win0_3.index t 0 * 512 + 1 * (y 0).val; rw [e00, e30]
    | ⟨1, _⟩ => show win0_0.index t 1 * 11008 + 1 * k.val = k.val; rw [e01]; omega
  · refine congrArg (m ((c : Thread nD τ).loc main_arg1)) ?_
    funext d; apply Fin.ext
    match d with
    | ⟨0, _⟩ => show win0_1.index t 0 * 11008 + 1 * k.val = k.val; rw [e10]; omega
    | ⟨1, _⟩ => show win0_1.index t 1 * 512 + 1 * (y 1).val = win0_3.index t 1 * 512 + 1 * (y 1).val; rw [e11, e31]

/-- Every element of the result lies in the tile of some point. -/
theorem cover (i : S8192x4096.Idx) : ∃ t : Fin cfg0.N, (cfg0.win 3).flush t = true ∧ i ∈ ((cfg0.win 3).blk t).view.set := by
  have h0 : (i 0 : ℕ) < 8192 := (i 0).isLt
  have h1 : (i 1 : ℕ) < 4096 := (i 1).isLt
  have hN : cfg0.N = 128 := N_0
  obtain ⟨t, ht⟩ : ∃ t : Fin cfg0.N, t.val = (i 0 : ℕ) / 512 * 8 + (i 1 : ℕ) / 512 := ⟨⟨_, by omega⟩, rfl⟩
  refine ⟨t, flush0_3 _, ?_⟩
  show i ∈ ((View.whole main_v0).slice (win0_3.rect t)).set
  rw [View.set_slice_whole, Rect.mem_set_unit]
  obtain ⟨-, -, -, -, -, -, e30, e31⟩ := offs t
  intro a
  match a with
  | ⟨0, _⟩ =>
    show win0_3.index t 0 * 512 ≤ (i 0 : ℕ) ∧ (i 0 : ℕ) < win0_3.index t 0 * 512 + 512
    rw [e30]; omega
  | ⟨1, _⟩ =>
    show win0_3.index t 1 * 512 ≤ (i 1 : ℕ) ∧ (i 1 : ℕ) < win0_3.index t 1 * 512 + 512
    rw [e31]; omega

/-- The result array after the run. -/
theorem final (c : Dev nD) : (dats m 0 c).arrAt 3 cfg0.N = whole m c :=
  (dats m 0 c).arrAt_eq_of_cover 3 (whole m c) (fun t _ => flushed_eq m c t) cover

/-- The plain product of the reference is the same function of the arguments. -/
theorem ref_eq (x : Vec Ideal S8192x11008 .bf16) (w : Vec Ideal S11008x4096 .bf16) (r : Vec Ideal S8192x4096 .f32) :
    addf (F := Ideal) (φ := .f32) r (Host.dotGeneral (F := Ideal) (φ₁ := .bf16) (φ₂ := .bf16) Cert.DownRefIdeal.dot_S8192x11008_S11008x4096_S8192x4096_1_0_0_1_n_n none x w)
      = elt (M := 8192) (K := 11008) (N := 4096) x w r := by
  funext i
  obtain ⟨a, b, rfl⟩ : ∃ (a : Fin 8192) (b : Fin 4096), i = ix2 a b := ⟨i 0, i 1, eq_ix2 i⟩
  show _ + _ = _ + _
  exact congrArg₂ (· + ·) rfl (dotGeneral_plain_apply (m := 8192) (k := 11008) (n := 4096) none x w a b)

/-- The tiled down projection and the plain one, run from memories that agree on the three arguments, end with equal results. -/
theorem algebraic : Cert.algebraic_DownIdeal_DownRefIdeal := by
  intro m g m' g' _ hag
  refine ⟨fun c => whole m c, ?_, ?_⟩
  · refine (θ_run defs _ _).mono (fun r h c => ?_) (Value.run_blocks (F := Ideal) m g)
    obtain ⟨a, b⟩ := h c
    exact ⟨a.trans (final m c), b⟩
  · refine (θ_run Cert.DownRefIdeal.defs _ _).mono (fun r h c => ?_) (Cert.DownRefIdeal.Value.run (F := Ideal) m' g')
    obtain ⟨a, b⟩ := h c
    refine ⟨a.trans ?_, b⟩
    obtain ⟨g0, g1, g2⟩ := hag c
    rw [g0, g1, g2]
    exact ref_eq _ _ _

/-- The plain down projection terminates, leaves its arguments as they were and no semaphore raised. -/
theorem frame_ref : Cert.quiescent_DownRefIdeal := by
  intro m g _
  exact (θ_run Cert.DownRefIdeal.defs _ _).mono
    (fun r h => ⟨fun c => (h c).2, Idealize.ShloMosaic.sem_eq_zero_of_no_sems (by decide) r.2⟩)
    (Cert.DownRefIdeal.Value.run (F := Ideal) m g)

end Cert.DownIdeal.Block

end
-- ==== Proof.GluBlock.lean ====
/-
  The gated projection with its residual: the result array of the tiled product, element by element. Each grid point holds 1024 rows
  of the activations, 512 value columns and 512 gate columns of the weights and one 1024 × 512 tile of the residual; the body works
  through the tile in eight chunks of 128 rows.
-/
module

public import proofs.«01_k».proof.Defs
public import proofs.«01_k».proof.Proof.Gen.GluIdeal.Value
public import proofs.«01_k».proof.Proof.Gen.GluRefIdeal.Run
public import Idealize.ShloMosaic.Lib.MatmulPlain
public import Idealize.ShloMosaic.Lib.StackMember
public import Idealize.ShloMosaic.Lib.Quiescent
public import Idealize.ShloMosaic.Lib.IdealHost

@[expose] public section

set_option maxRecDepth 16384

noncomputable section

namespace Cert.GluIdeal.Block

open Cert.GluIdeal Cert.GluIdeal.Gen Idealize.ShloMosaic Idealize.ShloMosaic.TcCoe Idealize.SL.Sem
open Idealize.ShloMosaic.ValueIdx Idealize.ShloMosaic.StackMember

/-- One element of the gated product: the residual, plus the value column's product times the logistic function of the
    gate column's product. -/
def elt {M K N : ℕ} (x : Vec Ideal ⟨2, ![M, K]⟩ .bf16) (wa wb : Vec Ideal ⟨2, ![K, N]⟩ .bf16) (r : Vec Ideal ⟨2, ![M, N]⟩ .f32)
    (i : (⟨2, ![M, N]⟩ : Shape).Idx) : EReal :=
  r i + (∑ k : Fin K, x (ix2 (i 0) k) * wa (ix2 k (i 1))) * Ideal.logistic (∑ k : Fin K, x (ix2 (i 0) k) * wb (ix2 k (i 1)))

/-- The zero accumulator adds nothing to a chunk's product. -/
theorem chunk (x : Vec Ideal S128x4096 .bf16) (w : Vec Ideal S4096x512 .bf16) (a : Fin 128) (b : Fin 512) :
    FloatOps.matmul (φ₁ := .bf16) (φ₂ := .bf16) dot_S128x4096_S4096x512_S128x512_1_0_0_1_n_n none x w (constant (F := Ideal) S128x512 .f32 0x00000000#32) (ix2 a b)
      = ∑ k : Fin 4096, x (ix2 a k) * w (ix2 k b) := by
  refine (Ideal.matmul_plain_apply (M := 128) (K := 4096) (N := 512) none x w _ a b).trans ?_
  show Ideal.ofBits .f32 0x00000000#32 + _ = _
  rw [Ideal.ofBits_zero_f32, zero_add]

/-- A chunk's payload at an index, whichever of the eight chunks it is. -/
theorem pay (o : ℕ) (h0 h2 : _) (x : Vec Ideal S1024x4096 .bf16) (wa wb : Vec Ideal S4096x512 .bf16) (r : Vec Ideal S1024x512 .f32)
    (y : S128x512.Idx) :
    k0_pay2 (View.ld x (Rect.unit (s := S1024x4096) ![o, 0] S128x4096.size h0)) (View.ld wa r0_1) (View.ld wb r0_1)
        (View.ld r (Rect.unit (s := S1024x512) ![o, 0] S128x512.size h2)) y
      = elt x wa wb r ((Rect.unit (s := S1024x512) ![o, 0] S128x512.size h2).emb y) := by
  obtain ⟨a, b, rfl⟩ : ∃ (a : Fin 128) (b : Fin 512), y = ix2 a b := ⟨y 0, y 1, eq_ix2 y⟩
  have hprod : ∀ w : Vec Ideal S4096x512 .bf16,
      FloatOps.matmul (φ₁ := .bf16) (φ₂ := .bf16) dot_S128x4096_S4096x512_S128x512_1_0_0_1_n_n none
          (View.ld x (Rect.unit (s := S1024x4096) ![o, 0] S128x4096.size h0)) (View.ld w r0_1)
          (constant (F := Ideal) S128x512 .f32 0x00000000#32) (ix2 a b)
        = ∑ k : Fin 4096, x (ix2 (((Rect.unit (s := S1024x512) ![o, 0] S128x512.size h2).emb (ix2 a b)) 0) k)
            * w (ix2 k (((Rect.unit (s := S1024x512) ![o, 0] S128x512.size h2).emb (ix2 a b)) 1)) := by
    intro w
    refine (chunk _ _ a b).trans (Finset.sum_congr rfl fun k _ => ?_)
    refine congrArg₂ (· * ·) (congrArg x ?_) (congrArg w ?_)
    · funext d; apply Fin.ext
      match d with
      | ⟨0, _⟩ => rfl
      | ⟨1, _⟩ => simp [LoadRect.idx_apply]
    · funext d; apply Fin.ext
      match d with
      | ⟨0, _⟩ => simp [LoadRect.idx_apply]
      | ⟨1, _⟩ => simp [LoadRect.idx_apply, Rect.emb_apply]
  show _ + _ * Ideal.logistic _ = _ + _ * Ideal.logistic _
  exact congrArg₂ (· + ·) rfl (congrArg₂ (· * ·) (hprod wa) (congrArg Ideal.logistic (hprod wb)))

/-- What the body leaves in the output tile, at any index of it. -/
theorem out_apply (x : Vec Ideal S1024x4096 .bf16) (wa wb : Vec Ideal S4096x512 .bf16) (r : Vec Ideal S1024x512 .f32) (y : S1024x512.Idx) :
    out0_4 x wa wb r y = elt x wa wb r y := by
  unfold out0_4
  refine View.canon_apply_of_pieces (Val := Elt Ideal) (S := S1024x512) (e := .f32) (elt (M := 1024) (K := 4096) (N := 512) x wa wb r) _ ?_ y (cover0_4 _ _ _ _ _ _ _ _ y)
  intro p hp z
  simp only [List.mem_cons, List.mem_singleton, List.not_mem_nil, or_false] at hp
  rcases hp with rfl | rfl | rfl | rfl | rfl | rfl | rfl | rfl
  · exact pay 896 _ _ x wa wb r z
  · exact pay 768 _ _ x wa wb r z
  · exact pay 640 _ _ x wa wb r z
  · exact pay 512 _ _ x wa wb r z
  · exact pay 384 _ _ x wa wb r z
  · exact pay 256 _ _ x wa wb r z
  · exact pay 128 _ _ x wa wb r z
  · exact pay 0 _ _ x wa wb r z

variable (m : (ℓ : Loc nD τ sig) → Buf (Elt Ideal) ℓ) (ρ : Dev nD → PrngReg)

/-- The two halves of the weights: the value columns and the gate columns. -/
def wcol (o : ℕ) (ho : o + 4096 ≤ 8192) (w : Vec Ideal S4096x8192 .bf16) : Vec Ideal ⟨2, ![4096, 4096]⟩ .bf16 :=
  fun i => w (ix2 (i 0) ⟨o + (i 1 : ℕ), by have h : (i 1 : ℕ) < 4096 := (i 1).isLt; omega⟩)

/-- The whole result as a function of the three arguments. -/
def full (x : Vec Ideal S8192x4096 .bf16) (w : Vec Ideal S4096x8192 .bf16) (r : Vec Ideal S8192x4096 .f32) : Vec Ideal S8192x4096 .f32 :=
  elt (M := 8192) (K := 4096) (N := 4096) x (wcol 0 (by decide) w) (wcol 4096 (by decide) w) r

/-- The whole result of device `c`'s three argument arrays. -/
abbrev whole (c : Dev nD) : Buf (Elt Ideal) ((c : Thread nD τ).loc main_v0) :=
  full (m ((c : Thread nD τ).loc main_arg0)) (m ((c : Thread nD τ).loc main_arg1)) (m ((c : Thread nD τ).loc main_arg2))

/-- Where the blocks of the five windows lie at a point: the row of tiles `t / 8`, the column of tiles `t % 8`, the gate's
    columns eight tiles further on. -/
theorem offs : ∀ t : Fin cfg0.N, win0_0.index t 0 = t.val / 8 ∧ win0_0.index t 1 = 0 ∧ win0_1.index t 0 = 0
    ∧ win0_1.index t 1 = t.val % 8 ∧ win0_2.index t 0 = 0 ∧ win0_2.index t 1 = t.val % 8 + 8
    ∧ win0_3.index t 0 = t.val / 8 ∧ win0_3.index t 1 = t.val % 8 ∧ win0_4.index t 0 = t.val / 8 ∧ win0_4.index t 1 = t.val % 8 :=
  (by decide +kernel : ∀ t : Fin grid0.N, win0_0.index t 0 = t.val / 8 ∧ win0_0.index t 1 = 0 ∧ win0_1.index t 0 = 0
    ∧ win0_1.index t 1 = t.val % 8 ∧ win0_2.index t 0 = 0 ∧ win0_2.index t 1 = t.val % 8 + 8
    ∧ win0_3.index t 0 = t.val / 8 ∧ win0_3.index t 1 = t.val % 8 ∧ win0_4.index t 0 = t.val / 8 ∧ win0_4.index t 1 = t.val % 8)

/-- What a point writes back is its tile of the whole result. -/
theorem flushed_eq (c : Dev nD) (t : Fin cfg0.N) :
    (dats m 0 c).flushed 4 t = (win0_4.blk t).view.read (Elt Ideal) (whole m c) := by
  rw [Value.flushed4]
  obtain ⟨e00, e01, e10, e11, e20, e21, e30, e31, e40, e41⟩ := offs t
  funext y
  refine (out_apply _ _ _ _ _).trans ?_
  show _ + _ * Ideal.logistic _ = _ + _ * Ideal.logistic _
  refine congrArg₂ (· + ·) ?_ (congrArg₂ (· * ·) (Finset.sum_congr rfl fun k _ => congrArg₂ (· * ·) ?_ ?_)
    (congrArg Ideal.logistic (Finset.sum_congr rfl fun k _ => congrArg₂ (· * ·) ?_ ?_)))
  · show m _ _ = m _ _
    refine congrArg (m ((c : Thread nD τ).loc main_arg2)) ?_
    funext d; apply Fin.ext
    match d with
    | ⟨0, _⟩ => show win0_3.index t 0 * 1024 + 1 * (y 0).val = win0_4.index t 0 * 1024 + 1 * (y 0).val; rw [e30, e40]
    | ⟨1, _⟩ => show win0_3.index t 1 * 512 + 1 * (y 1).val = win0_4.index t 1 * 512 + 1 * (y 1).val; rw [e31, e41]
  · refine congrArg (m ((c : Thread nD τ).loc main_arg0)) ?_
    funext d; apply Fin.ext
    match d with
    | ⟨0, _⟩ => show win0_0.index t 0 * 1024 + 1 * (y 0).val = win0_4.index t 0 * 1024 + 1 * (y 0).val; rw [e00, e40]
    | ⟨1, _⟩ => show win0_0.index t 1 * 4096 + 1 * k.val = k.val; rw [e01]; omega
  · refine congrArg (m ((c : Thread nD τ).loc main_arg1)) ?_
    funext d; apply Fin.ext
    match d with
    | ⟨0, _⟩ => show win0_1.index t 0 * 4096 + 1 * k.val = k.val; rw [e10]; omega
    | ⟨1, _⟩ => show win0_1.index t 1 * 512 + 1 * (y 1).val = 0 + (win0_4.index t 1 * 512 + 1 * (y 1).val); rw [e11, e41]; omega
  · refine congrArg (m ((c : Thread nD τ).loc main_arg0)) ?_
    funext d; apply Fin.ext
    match d with
    | ⟨0, _⟩ => show win0_0.index t 0 * 1024 + 1 * (y 0).val = win0_4.index t 0 * 1024 + 1 * (y 0).val; rw [e00, e40]
    | ⟨1, _⟩ => show win0_0.index t 1 * 4096 + 1 * k.val = k.val; rw [e01]; omega
  · refine congrArg (m ((c : Thread nD τ).loc main_arg1)) ?_
    funext d; apply Fin.ext
    match d with
    | ⟨0, _⟩ => show win0_2.index t 0 * 4096 + 1 * k.val = k.val; rw [e20]; omega
    | ⟨1, _⟩ => show win0_2.index t 1 * 512 + 1 * (y 1).val = 4096 + (win0_4.index t 1 * 512 + 1 * (y 1).val); rw [e21, e41]; omega

/-- Every element of the result lies in the tile of some point. -/
theorem cover (i : S8192x4096.Idx) : ∃ t : Fin cfg0.N, (cfg0.win 4).flush t = true ∧ i ∈ ((cfg0.win 4).blk t).view.set := by
  have h0 : (i 0 : ℕ) < 8192 := (i 0).isLt
  have h1 : (i 1 : ℕ) < 4096 := (i 1).isLt
  have hN : cfg0.N = 64 := N_0
  obtain ⟨t, ht⟩ : ∃ t : Fin cfg0.N, t.val = (i 0 : ℕ) / 1024 * 8 + (i 1 : ℕ) / 512 := ⟨⟨_, by omega⟩, rfl⟩
  refine ⟨t, flush0_4 _, ?_⟩
  show i ∈ ((View.whole main_v0).slice (win0_4.rect t)).set
  rw [View.set_slice_whole, Rect.mem_set_unit]
  obtain ⟨-, -, -, -, -, -, -, -, e40, e41⟩ := offs t
  intro a
  match a with
  | ⟨0, _⟩ =>
    show win0_4.index t 0 * 1024 ≤ (i 0 : ℕ) ∧ (i 0 : ℕ) < win0_4.index t 0 * 1024 + 1024
    rw [e40]; omega
  | ⟨1, _⟩ =>
    show win0_4.index t 1 * 512 ≤ (i 1 : ℕ) ∧ (i 1 : ℕ) < win0_4.index t 1 * 512 + 512
    rw [e41]; omega

/-- The result array after the run. -/
theorem final (c : Dev nD) : (dats m 0 c).arrAt 4 cfg0.N = whole m c :=
  (dats m 0 c).arrAt_eq_of_cover 4 (whole m c) (fun t _ => flushed_eq m c t) cover

/-- The logistic function spelled with the constant 1.0, as the reference spells it. -/
theorem gate (b : EReal) : Ideal.div (Ideal.ofBits .f32 0x3F800000#32) (Ideal.ofBits .f32 0x3F800000#32 + Ideal.exp (-b)) = Ideal.logistic b := by
  rw [show Ideal.ofBits .f32 0x3F800000#32 = 1 from Ideal.ofBits_one_f32]
  rfl

/-- One element of the reference's one wide product. -/
theorem wide (x : Vec Ideal S8192x4096 .bf16) (w : Vec Ideal S4096x8192 .bf16) (a : Fin 8192) (b : Fin 8192)
    (i : Cert.GluRefIdeal.S8192x8192.Idx) (h : i = ix2 a b) :
    Host.dotGeneral (F := Ideal) (φ₁ := .bf16) (φ₂ := .bf16) Cert.GluRefIdeal.dot_S8192x4096_S4096x8192_S8192x8192_1_0_0_1_n_n none x w i
      = ∑ k : Fin 4096, x (ix2 a k) * w (ix2 k b) := by
  rw [h]
  exact dotGeneral_plain_apply (m := 8192) (k := 4096) (n := 8192) none x w a b

/-- The tiled gated projection and the plain one, run from memories that agree on the three arguments, end with equal
    results. -/
theorem algebraic : Cert.algebraic_GluIdeal_GluRefIdeal := by
  intro m g m' g' _ hag
  refine ⟨fun c => whole m c, ?_, ?_⟩
  · refine (θ_run defs _ _).mono (fun r h c => ?_) (Value.run_blocks (F := Ideal) m g)
    obtain ⟨a, b⟩ := h c
    exact ⟨a.trans (final m c), b⟩
  · refine (θ_run Cert.GluRefIdeal.defs _ _).mono (fun r h c => ?_) (Cert.GluRefIdeal.Value.run (F := Ideal) m' g')
    obtain ⟨a, b⟩ := h c
    refine ⟨a.trans ?_, b⟩
    obtain ⟨g0, g1, g2⟩ := hag c
    rw [g0, g1, g2]
    funext i
    obtain ⟨p, q, rfl⟩ : ∃ (p : Fin 8192) (q : Fin 4096), i = ix2 p q := ⟨i 0, i 1, eq_ix2 i⟩
    show _ + _ * Ideal.div (Ideal.ofBits .f32 0x3F800000#32) (Ideal.ofBits .f32 0x3F800000#32 + Ideal.exp (-_)) = _ + _ * Ideal.logistic _
    rw [gate]
    refine congrArg₂ (· + ·) rfl (congrArg₂ (· * ·) ?_ (congrArg Ideal.logistic ?_))
    · refine wide _ _ p ⟨0 + q.val, by omega⟩ _ ?_
      funext d; apply Fin.ext
      match d with
      | ⟨0, _⟩ => show 0 + p.val = p.val; omega
      | ⟨1, _⟩ => rfl
    · refine wide _ _ p ⟨4096 + q.val, by omega⟩ _ ?_
      funext d; apply Fin.ext
      match d with
      | ⟨0, _⟩ => show 0 + p.val = p.val; omega
      | ⟨1, _⟩ => rfl

/-- The plain gated projection terminates, leaves its arguments as they were and no semaphore raised. -/
theorem frame_ref : Cert.quiescent_GluRefIdeal := by
  intro m g _
  exact (θ_run Cert.GluRefIdeal.defs _ _).mono
    (fun r h => ⟨fun c => (h c).2, Idealize.ShloMosaic.sem_eq_zero_of_no_sems (by decide) r.2⟩)
    (Cert.GluRefIdeal.Value.run (F := Ideal) m g)

end Cert.GluIdeal.Block

end
-- ==== Proof.OutBlock.lean ====
/-
  The output projection with its residual: the result array of the tiled product, element by element. Each grid point holds 1024 rows
  of the activations, 1024 columns of the weights and one 1024 × 1024 tile of the residual; the body works through the tile
  in eight chunks of 128 rows.
-/
module

public import proofs.«01_k».proof.Defs
public import proofs.«01_k».proof.Proof.Gen.OutIdeal.Value
public import proofs.«01_k».proof.Proof.Gen.OutRefIdeal.Run
public import Idealize.ShloMosaic.Lib.MatmulPlain
public import Idealize.ShloMosaic.Lib.StackMember
public import Idealize.ShloMosaic.Lib.Quiescent

@[expose] public section

set_option maxRecDepth 16384

noncomputable section

namespace Cert.OutIdeal.Block

open Cert.OutIdeal Cert.OutIdeal.Gen Idealize.ShloMosaic Idealize.ShloMosaic.TcCoe Idealize.SL.Sem
open Idealize.ShloMosaic.ValueIdx Idealize.ShloMosaic.StackMember

/-- One element of the product of two matrices plus a residual. -/
def elt {M K N : ℕ} (x : Vec Ideal ⟨2, ![M, K]⟩ .bf16) (w : Vec Ideal ⟨2, ![K, N]⟩ .bf16) (r : Vec Ideal ⟨2, ![M, N]⟩ .f32)
    (i : (⟨2, ![M, N]⟩ : Shape).Idx) : EReal :=
  r i + ∑ k : Fin K, x (ix2 (i 0) k) * w (ix2 k (i 1))

/-- The zero accumulator adds nothing to a chunk's product. -/
theorem chunk (x : Vec Ideal S128x4096 .bf16) (w : Vec Ideal S4096x1024 .bf16) (a : Fin 128) (b : Fin 1024) :
    FloatOps.matmul (φ₁ := .bf16) (φ₂ := .bf16) dot_S128x4096_S4096x1024_S128x1024_1_0_0_1_n_n none x w (constant (F := Ideal) S128x1024 .f32 0x00000000#32) (ix2 a b)
      = ∑ k : Fin 4096, x (ix2 a k) * w (ix2 k b) := by
  refine (Ideal.matmul_plain_apply (M := 128) (K := 4096) (N := 1024) none x w _ a b).trans ?_
  show Ideal.ofBits .f32 0x00000000#32 + _ = _
  rw [Ideal.ofBits_zero_f32, zero_add]

/-- A chunk's payload at an index, whichever of the eight chunks it is. -/
theorem pay (o : ℕ) (h0 h2 : _) (x : Vec Ideal S1024x4096 .bf16) (w : Vec Ideal S4096x1024 .bf16) (r : Vec Ideal S1024x1024 .f32)
    (y : S128x1024.Idx) :
    k0_pay2 (View.ld x (Rect.unit (s := S1024x4096) ![o, 0] S128x4096.size h0)) (View.ld w r0_1)
        (View.ld r (Rect.unit (s := S1024x1024) ![o, 0] S128x1024.size h2)) y
      = elt x w r ((Rect.unit (s := S1024x1024) ![o, 0] S128x1024.size h2).emb y) := by
  obtain ⟨a, b, rfl⟩ : ∃ (a : Fin 128) (b : Fin 1024), y = ix2 a b := ⟨y 0, y 1, eq_ix2 y⟩
  show _ + _ = _ + _
  refine congrArg₂ (· + ·) rfl ((chunk _ _ a b).trans (Finset.sum_congr rfl fun k _ => ?_))
  refine congrArg₂ (· * ·) (congrArg x ?_) (congrArg w ?_)
  · funext d; apply Fin.ext
    match d with
    | ⟨0, _⟩ => rfl
    | ⟨1, _⟩ => simp [LoadRect.idx_apply]
  · funext d; apply Fin.ext
    match d with
    | ⟨0, _⟩ => simp [LoadRect.idx_apply]
    | ⟨1, _⟩ => simp [LoadRect.idx_apply, Rect.emb_apply]

/-- What the body leaves in the output tile, at any index of it. -/
theorem out_apply (x : Vec Ideal S1024x4096 .bf16) (w : Vec Ideal S4096x1024 .bf16) (r : Vec Ideal S1024x1024 .f32) (y : S1024x1024.Idx) :
    out0_3 x w r y = elt x w r y := by
  unfold out0_3
  refine View.canon_apply_of_pieces (Val := Elt Ideal) (S := S1024x1024) (e := .f32) (elt (M := 1024) (K := 4096) (N := 1024) x w r) _ ?_ y (cover0_3 _ _ _ _ _ _ _ _ y)
  intro p hp z
  simp only [List.mem_cons, List.mem_singleton, List.not_mem_nil, or_false] at hp
  rcases hp with rfl | rfl | rfl | rfl | rfl | rfl | rfl | rfl
  · exact pay 896 _ _ x w r z
  · exact pay 768 _ _ x w r z
  · exact pay 640 _ _ x w r z
  · exact pay 512 _ _ x w r z
  · exact pay 384 _ _ x w r z
  · exact pay 256 _ _ x w r z
  · exact pay 128 _ _ x w r z
  · exact pay 0 _ _ x w r z

variable (m : (ℓ : Loc nD τ sig) → Buf (Elt Ideal) ℓ) (ρ : Dev nD → PrngReg)

/-- The whole result of device `c`'s three argument arrays. -/
abbrev whole (c : Dev nD) : Buf (Elt Ideal) ((c : Thread nD τ).loc main_v0) :=
  elt (M := 8192) (K := 4096) (N := 4096) (m ((c : Thread nD τ).loc main_arg0)) (m ((c : Thread nD τ).loc main_arg1))
    (m ((c : Thread nD τ).loc main_arg2))

/-- Where the blocks of the four windows lie at a point: the row of tiles `t / 4`, the column of tiles `t % 4`. -/
theorem offs : ∀ t : Fin cfg0.N, win0_0.index t 0 = t.val / 4 ∧ win0_0.index t 1 = 0 ∧ win0_1.index t 0 = 0
    ∧ win0_1.index t 1 = t.val % 4 ∧ win0_2.index t 0 = t.val / 4 ∧ win0_2.index t 1 = t.val % 4
    ∧ win0_3.index t 0 = t.val / 4 ∧ win0_3.index t 1 = t.val % 4 :=
  (by decide +kernel : ∀ t : Fin grid0.N, win0_0.index t 0 = t.val / 4 ∧ win0_0.index t 1 = 0 ∧ win0_1.index t 0 = 0
    ∧ win0_1.index t 1 = t.val % 4 ∧ win0_2.index t 0 = t.val / 4 ∧ win0_2.index t 1 = t.val % 4
    ∧ win0_3.index t 0 = t.val / 4 ∧ win0_3.index t 1 = t.val % 4)

/-- What a point writes back is its tile of the whole result. -/
theorem flushed_eq (c : Dev nD) (t : Fin cfg0.N) :
    (dats m 0 c).flushed 3 t = (win0_3.blk t).view.read (Elt Ideal) (whole m c) := by
  rw [Value.flushed3]
  obtain ⟨e00, e01, e10, e11, e20, e21, e30, e31⟩ := offs t
  funext y
  refine (out_apply _ _ _ _).trans ?_
  show _ + _ = _ + _
  refine congrArg₂ (· + ·) ?_ (Finset.sum_congr rfl fun k _ => congrArg₂ (· * ·) ?_ ?_)
  · show m _ _ = m _ _
    refine congrArg (m ((c : Thread nD τ).loc main_arg2)) ?_
    funext d; apply Fin.ext
    match d with
    | ⟨0, _⟩ => show win0_2.index t 0 * 1024 + 1 * (y 0).val = win0_3.index t 0 * 1024 + 1 * (y 0).val; rw [e20, e30]
    | ⟨1, _⟩ => show win0_2.index t 1 * 1024 + 1 * (y 1).val = win0_3.index t 1 * 1024 + 1 * (y 1).val; rw [e21, e31]
  · refine congrArg (m ((c : Thread nD τ).loc main_arg0)) ?_
    funext d; apply Fin.ext
    match d with
    | ⟨0, _⟩ => show win0_0.index t 0 * 1024 + 1 * (y 0).val = win0_3.index t 0 * 1024 + 1 * (y 0).val; rw [e00, e30]
    | ⟨1, _⟩ => show win0_0.index t 1 * 4096 + 1 * k.val = k.val; rw [e01]; omega
  · refine congrArg (m ((c : Thread nD τ).loc main_arg1)) ?_
    funext d; apply Fin.ext
    match d with
    | ⟨0, _⟩ => show win0_1.index t 0 * 4096 + 1 * k.val = k.val; rw [e10]; omega
    | ⟨1, _⟩ => show win0_1.index t 1 * 1024 + 1 * (y 1).val = win0_3.index t 1 * 1024 + 1 * (y 1).val; rw [e11, e31]

/-- Every element of the result lies in the tile of some point. -/
theorem cover (i : S8192x4096.Idx) : ∃ t : Fin cfg0.N, (cfg0.win 3).flush t = true ∧ i ∈ ((cfg0.win 3).blk t).view.set := by
  have h0 : (i 0 : ℕ) < 8192 := (i 0).isLt
  have h1 : (i 1 : ℕ) < 4096 := (i 1).isLt
  have hN : cfg0.N = 32 := N_0
  obtain ⟨t, ht⟩ : ∃ t : Fin cfg0.N, t.val = (i 0 : ℕ) / 1024 * 4 + (i 1 : ℕ) / 1024 := ⟨⟨_, by omega⟩, rfl⟩
  refine ⟨t, flush0_3 _, ?_⟩
  show i ∈ ((View.whole main_v0).slice (win0_3.rect t)).set
  rw [View.set_slice_whole, Rect.mem_set_unit]
  obtain ⟨-, -, -, -, -, -, e30, e31⟩ := offs t
  intro a
  match a with
  | ⟨0, _⟩ =>
    show win0_3.index t 0 * 1024 ≤ (i 0 : ℕ) ∧ (i 0 : ℕ) < win0_3.index t 0 * 1024 + 1024
    rw [e30]; omega
  | ⟨1, _⟩ =>
    show win0_3.index t 1 * 1024 ≤ (i 1 : ℕ) ∧ (i 1 : ℕ) < win0_3.index t 1 * 1024 + 1024
    rw [e31]; omega

/-- The result array after the run. -/
theorem final (c : Dev nD) : (dats m 0 c).arrAt 3 cfg0.N = whole m c :=
  (dats m 0 c).arrAt_eq_of_cover 3 (whole m c) (fun t _ => flushed_eq m c t) cover

/-- The plain product of the reference is the same function of the arguments. -/
theorem ref_eq (x : Vec Ideal S8192x4096 .bf16) (w : Vec Ideal S4096x4096 .bf16) (r : Vec Ideal S8192x4096 .f32) :
    addf (F := Ideal) (φ := .f32) r (Host.dotGeneral (F := Ideal) (φ₁ := .bf16) (φ₂ := .bf16) Cert.OutRefIdeal.dot_S8192x4096_S4096x4096_S8192x4096_1_0_0_1_n_n none x w)
      = elt (M := 8192) (K := 4096) (N := 4096) x w r := by
  funext i
  obtain ⟨a, b, rfl⟩ : ∃ (a : Fin 8192) (b : Fin 4096), i = ix2 a b := ⟨i 0, i 1, eq_ix2 i⟩
  show _ + _ = _ + _
  exact congrArg₂ (· + ·) rfl (dotGeneral_plain_apply (m := 8192) (k := 4096) (n := 4096) none x w a b)

/-- The tiled output projection and the plain one, run from memories that agree on the three arguments, end with equal results. -/
theorem algebraic : Cert.algebraic_OutIdeal_OutRefIdeal := by
  intro m g m' g' _ hag
  refine ⟨fun c => whole m c, ?_, ?_⟩
  · refine (θ_run defs _ _).mono (fun r h c => ?_) (Value.run_blocks (F := Ideal) m g)
    obtain ⟨a, b⟩ := h c
    exact ⟨a.trans (final m c), b⟩
  · refine (θ_run Cert.OutRefIdeal.defs _ _).mono (fun r h c => ?_) (Cert.OutRefIdeal.Value.run (F := Ideal) m' g')
    obtain ⟨a, b⟩ := h c
    refine ⟨a.trans ?_, b⟩
    obtain ⟨g0, g1, g2⟩ := hag c
    rw [g0, g1, g2]
    exact ref_eq _ _ _

/-- The plain output projection terminates, leaves its arguments as they were and no semaphore raised. -/
theorem frame_ref : Cert.quiescent_OutRefIdeal := by
  intro m g _
  exact (θ_run Cert.OutRefIdeal.defs _ _).mono
    (fun r h => ⟨fun c => (h c).2, Idealize.ShloMosaic.sem_eq_zero_of_no_sems (by decide) r.2⟩)
    (Cert.OutRefIdeal.Value.run (F := Ideal) m g)

end Cert.OutIdeal.Block

end
-- ==== Proof.QueryBlock.lean ====
/-
  The query projection: the result array of the tiled product, element by element. Each grid point holds 1024 rows
  of the activations, 1024 columns of the weights; the body works through the tile
  in eight chunks of 128 rows.
-/
module

public import proofs.«01_k».proof.Defs
public import proofs.«01_k».proof.Proof.Gen.QueryIdeal.Value
public import proofs.«01_k».proof.Proof.Gen.QueryRefIdeal.Run
public import Idealize.ShloMosaic.Lib.MatmulPlain
public import Idealize.ShloMosaic.Lib.StackMember
public import Idealize.ShloMosaic.Lib.Quiescent

@[expose] public section

set_option maxRecDepth 16384

noncomputable section

namespace Cert.QueryIdeal.Block

open Cert.QueryIdeal Cert.QueryIdeal.Gen Idealize.ShloMosaic Idealize.ShloMosaic.TcCoe Idealize.SL.Sem
open Idealize.ShloMosaic.ValueIdx Idealize.ShloMosaic.StackMember

/-- One element of the product of two matrices. -/
def elt {M K N : ℕ} (x : Vec Ideal ⟨2, ![M, K]⟩ .bf16) (w : Vec Ideal ⟨2, ![K, N]⟩ .bf16)
    (i : (⟨2, ![M, N]⟩ : Shape).Idx) : EReal :=
  ∑ k : Fin K, x (ix2 (i 0) k) * w (ix2 k (i 1))

/-- Elements of two products are equal if their rows and their columns are. -/
theorem elt_congr {M K N M' N' : ℕ} (x : Vec Ideal ⟨2, ![M, K]⟩ .bf16) (w : Vec Ideal ⟨2, ![K, N]⟩ .bf16) (i : (⟨2, ![M, N]⟩ : Shape).Idx)
    (x' : Vec Ideal ⟨2, ![M', K]⟩ .bf16) (w' : Vec Ideal ⟨2, ![K, N']⟩ .bf16) (j : (⟨2, ![M', N']⟩ : Shape).Idx)
    (hx : ∀ k, x (ix2 (i 0) k) = x' (ix2 (j 0) k)) (hw : ∀ k, w (ix2 k (i 1)) = w' (ix2 k (j 1))) : elt x w i = elt x' w' j :=
  Finset.sum_congr rfl fun k _ => congrArg₂ (· * ·) (hx k) (hw k)

/-- The zero accumulator adds nothing to a chunk's product. -/
theorem chunk (x : Vec Ideal S128x4096 .bf16) (w : Vec Ideal S4096x1024 .bf16) (a : Fin 128) (b : Fin 1024) :
    FloatOps.matmul (φ₁ := .bf16) (φ₂ := .bf16) dot_S128x4096_S4096x1024_S128x1024_1_0_0_1_n_n none x w (constant (F := Ideal) S128x1024 .f32 0x00000000#32) (ix2 a b)
      = ∑ k : Fin 4096, x (ix2 a k) * w (ix2 k b) := by
  refine (Ideal.matmul_plain_apply (M := 128) (K := 4096) (N := 1024) none x w _ a b).trans ?_
  show Ideal.ofBits .f32 0x00000000#32 + _ = _
  rw [Ideal.ofBits_zero_f32, zero_add]

/-- A chunk's payload at an index, whichever of the eight chunks it is. -/
theorem pay (o : ℕ) (h0 : _) (h2 : _) (x : Vec Ideal S1024x4096 .bf16) (w : Vec Ideal S4096x1024 .bf16)
    (y : S128x1024.Idx) :
    k0_pay5 (View.ld x (Rect.unit (s := S1024x4096) ![o, 0] S128x4096.size h0)) (View.ld w r0_1) y
      = elt x w ((Rect.unit (s := S1024x1024) ![o, 0] S128x1024.size h2).emb y) := by
  obtain ⟨a, b, rfl⟩ : ∃ (a : Fin 128) (b : Fin 1024), y = ix2 a b := ⟨y 0, y 1, eq_ix2 y⟩
  refine (chunk _ _ a b).trans (Finset.sum_congr rfl fun k _ => ?_)
  refine congrArg₂ (· * ·) (congrArg x ?_) (congrArg w ?_)
  · funext d; apply Fin.ext
    match d with
    | ⟨0, _⟩ => rfl
    | ⟨1, _⟩ => simp [LoadRect.idx_apply]
  · funext d; apply Fin.ext
    match d with
    | ⟨0, _⟩ => simp [LoadRect.idx_apply]
    | ⟨1, _⟩ => simp [LoadRect.idx_apply, Rect.emb_apply]

/-- What the body leaves in the output tile, at any index of it. -/
theorem out_apply (x : Vec Ideal S1024x4096 .bf16) (w : Vec Ideal S4096x1024 .bf16) (y : S1024x1024.Idx) :
    out0_2 x w y = elt x w y := by
  unfold out0_2
  refine View.canon_apply_of_pieces (Val := Elt Ideal) (S := S1024x1024) (e := .bf16) (elt (M := 1024) (K := 4096) (N := 1024) x w) _ ?_ y (cover0_2 _ _ _ _ _ _ _ _ y)
  intro p hp z
  simp only [List.mem_cons, List.mem_singleton, List.not_mem_nil, or_false] at hp
  rcases hp with rfl | rfl | rfl | rfl | rfl | rfl | rfl | rfl
  · exact pay 896 _ inb_S1024x1024_S128x1024_896_0 x w z
  · exact pay 768 _ inb_S1024x1024_S128x1024_768_0 x w z
  · exact pay 640 _ inb_S1024x1024_S128x1024_640_0 x w z
  · exact pay 512 _ inb_S1024x1024_S128x1024_512_0 x w z
  · exact pay 384 _ inb_S1024x1024_S128x1024_384_0 x w z
  · exact pay 256 _ inb_S1024x1024_S128x1024_256_0 x w z
  · exact pay 128 _ inb_S1024x1024_S128x1024_128_0 x w z
  · exact pay 0 _ inb_S1024x1024_S128x1024_0_0 x w z

variable (m : (ℓ : Loc nD τ sig) → Buf (Elt Ideal) ℓ) (ρ : Dev nD → PrngReg)

/-- The whole result of device `c`'s two argument arrays. -/
abbrev whole (c : Dev nD) : Buf (Elt Ideal) ((c : Thread nD τ).loc main_v0) :=
  elt (M := 8192) (K := 4096) (N := 4096) (m ((c : Thread nD τ).loc main_arg0)) (m ((c : Thread nD τ).loc main_arg1))

/-- Where the blocks of the three windows lie at a point: the row of tiles `t / 4`, the column of tiles `t % 4`. -/
theorem offs : ∀ t : Fin cfg0.N, win0_0.index t 0 = t.val / 4 ∧ win0_0.index t 1 = 0 ∧ win0_1.index t 0 = 0
    ∧ win0_1.index t 1 = t.val % 4 ∧ win0_2.index t 0 = t.val / 4 ∧ win0_2.index t 1 = t.val % 4 :=
  (by decide +kernel : ∀ t : Fin grid0.N, win0_0.index t 0 = t.val / 4 ∧ win0_0.index t 1 = 0 ∧ win0_1.index t 0 = 0
    ∧ win0_1.index t 1 = t.val % 4 ∧ win0_2.index t 0 = t.val / 4 ∧ win0_2.index t 1 = t.val % 4)

/-- What a point writes back is its tile of the whole result. -/
theorem flushed_eq (c : Dev nD) (t : Fin cfg0.N) :
    (dats m 0 c).flushed 2 t = (win0_2.blk t).view.read (Elt Ideal) (whole m c) := by
  rw [Value.flushed2]
  obtain ⟨e00, e01, e10, e11, e20, e21⟩ := offs t
  funext y
  refine (out_apply _ _ _).trans ?_
  refine elt_congr (M := 1024) (K := 4096) (N := 1024) (M' := 8192) (N' := 4096) _ _ _ (m ((c : Thread nD τ).loc main_arg0))
    (m ((c : Thread nD τ).loc main_arg1)) ((win0_2.blk t).view.emb y) (fun k => ?_) fun k => ?_
  · refine congrArg (m ((c : Thread nD τ).loc main_arg0)) ?_
    funext d; apply Fin.ext
    match d with
    | ⟨0, _⟩ => show win0_0.index t 0 * 1024 + 1 * (y 0).val = win0_2.index t 0 * 1024 + 1 * (y 0).val; rw [e00, e20]
    | ⟨1, _⟩ => show win0_0.index t 1 * 4096 + 1 * k.val = k.val; rw [e01]; omega
  · refine congrArg (m ((c : Thread nD τ).loc main_arg1)) ?_
    funext d; apply Fin.ext
    match d with
    | ⟨0, _⟩ => show win0_1.index t 0 * 4096 + 1 * k.val = k.val; rw [e10]; omega
    | ⟨1, _⟩ => show win0_1.index t 1 * 1024 + 1 * (y 1).val = win0_2.index t 1 * 1024 + 1 * (y 1).val; rw [e11, e21]

/-- Every element of the result lies in the tile of some point. -/
theorem cover (i : S8192x4096.Idx) : ∃ t : Fin cfg0.N, (cfg0.win 2).flush t = true ∧ i ∈ ((cfg0.win 2).blk t).view.set := by
  have h0 : (i 0 : ℕ) < 8192 := (i 0).isLt
  have h1 : (i 1 : ℕ) < 4096 := (i 1).isLt
  have hN : cfg0.N = 32 := N_0
  obtain ⟨t, ht⟩ : ∃ t : Fin cfg0.N, t.val = (i 0 : ℕ) / 1024 * 4 + (i 1 : ℕ) / 1024 := ⟨⟨_, by omega⟩, rfl⟩
  refine ⟨t, flush0_2 _, ?_⟩
  show i ∈ ((View.whole main_v0).slice (win0_2.rect t)).set
  rw [View.set_slice_whole, Rect.mem_set_unit]
  obtain ⟨-, -, -, -, e20, e21⟩ := offs t
  intro a
  match a with
  | ⟨0, _⟩ =>
    show win0_2.index t 0 * 1024 ≤ (i 0 : ℕ) ∧ (i 0 : ℕ) < win0_2.index t 0 * 1024 + 1024
    rw [e20]; omega
  | ⟨1, _⟩ =>
    show win0_2.index t 1 * 1024 ≤ (i 1 : ℕ) ∧ (i 1 : ℕ) < win0_2.index t 1 * 1024 + 1024
    rw [e21]; omega

/-- The result array after the run. -/
theorem final (c : Dev nD) : (dats m 0 c).arrAt 2 cfg0.N = whole m c :=
  (dats m 0 c).arrAt_eq_of_cover 2 (whole m c) (fun t _ => flushed_eq m c t) cover

/-- The plain product of the reference is the same function of the arguments. -/
theorem ref_eq (x : Vec Ideal S8192x4096 .bf16) (w : Vec Ideal S4096x4096 .bf16) :
    truncf (F := Ideal) .bf16 (Host.dotGeneral (F := Ideal) (φ₁ := .bf16) (φ₂ := .bf16) Cert.QueryRefIdeal.dot_S8192x4096_S4096x4096_S8192x4096_1_0_0_1_n_n none x w)
        Cert.QueryRefIdeal.Gen.bitsLt_bf16_f32
      = elt (M := 8192) (K := 4096) (N := 4096) x w := by
  funext i
  obtain ⟨a, b, rfl⟩ : ∃ (a : Fin 8192) (b : Fin 4096), i = ix2 a b := ⟨i 0, i 1, eq_ix2 i⟩
  exact dotGeneral_plain_apply (φ₁ := .bf16) (φ₂ := .bf16) (m := 8192) (k := 4096) (n := 4096) none x w a b

/-- The tiled query projection and the plain one, run from memories that agree on the two arguments, end with equal results. -/
theorem algebraic : Cert.algebraic_QueryIdeal_QueryRefIdeal := by
  intro m g m' g' _ hag
  refine ⟨fun c => whole m c, ?_, ?_⟩
  · refine (θ_run defs _ _).mono (fun r h c => ?_) (Value.run_blocks (F := Ideal) m g)
    obtain ⟨a, b⟩ := h c
    exact ⟨a.trans (final m c), b⟩
  · refine (θ_run Cert.QueryRefIdeal.defs _ _).mono (fun r h c => ?_) (Cert.QueryRefIdeal.Value.run (F := Ideal) m' g')
    obtain ⟨a, b⟩ := h c
    refine ⟨a.trans ?_, b⟩
    obtain ⟨g0, g1⟩ := hag c
    rw [g0, g1]
    exact ref_eq _ _

/-- The plain query projection terminates, leaves its arguments as they were and no semaphore raised. -/
theorem frame_ref : Cert.quiescent_QueryRefIdeal := by
  intro m g _
  exact (θ_run Cert.QueryRefIdeal.defs _ _).mono
    (fun r h => ⟨fun c => (h c).2, Idealize.ShloMosaic.sem_eq_zero_of_no_sems (by decide) r.2⟩)
    (Cert.QueryRefIdeal.Value.run (F := Ideal) m g)

end Cert.QueryIdeal.Block

end
-- ==== Proof.UpSpec.lean ====
/-
  The up projection, element by element: the two products, the short convolution over the last three gates of a sequence and
  the activation, as functions of plain row and column numbers.
-/
module

public import Idealize.ShloMosaic.Lib.Pointwise
public import Idealize.ShloMosaic.Lib.Pipeline.Value

@[expose] public section

set_option maxRecDepth 16384

noncomputable section

namespace Cert.UpIdeal.Block

open Idealize.ShloMosaic

/-- An element of a vector by its number; zero outside. -/
def at1 {M : ℕ} (x : (⟨1, ![M]⟩ : Shape).Idx → EReal) (a : ℕ) : EReal := if h : a < M then x (ix1 ⟨a, h⟩) else 0
/-- An element of a matrix by its two numbers; zero outside. -/
def at2 {M N : ℕ} (x : (⟨2, ![M, N]⟩ : Shape).Idx → EReal) (a b : ℕ) : EReal := if h : a < M ∧ b < N then x (ix2 ⟨a, h.1⟩ ⟨b, h.2⟩) else 0
/-- An element of a stack of matrices by its three numbers; zero outside. -/
def at3 {L M N : ℕ} (x : (⟨3, ![L, M, N]⟩ : Shape).Idx → EReal) (a b c : ℕ) : EReal :=
  if h : a < L ∧ b < M ∧ c < N then x (ix3 ⟨a, h.1⟩ ⟨b, h.2.1⟩ ⟨c, h.2.2⟩) else 0

/-- Reading a vector by number. -/
theorem at1_of {M : ℕ} (x : (⟨1, ![M]⟩ : Shape).Idx → EReal) (i : (⟨1, ![M]⟩ : Shape).Idx) (a : ℕ) (ha : (i 0).val = a) : x i = at1 x a := by
  subst ha
  rw [at1, dif_pos (show (i 0).val < M from (i 0).isLt)]
  refine congrArg x (funext fun d => ?_)
  match d with
  | ⟨0, _⟩ => rfl
/-- Reading a matrix by numbers. -/
theorem at2_of {M N : ℕ} (x : (⟨2, ![M, N]⟩ : Shape).Idx → EReal) (i : (⟨2, ![M, N]⟩ : Shape).Idx) (a b : ℕ) (ha : (i 0).val = a)
    (hb : (i 1).val = b) : x i = at2 x a b := by
  subst ha hb
  rw [at2, dif_pos (show (i 0).val < M ∧ (i 1).val < N from ⟨(i 0).isLt, (i 1).isLt⟩)]
  refine congrArg x (funext fun d => ?_)
  match d with
  | ⟨0, _⟩ => rfl
  | ⟨1, _⟩ => rfl
/-- Reading a stack of matrices by numbers. -/
theorem at3_of {L M N : ℕ} (x : (⟨3, ![L, M, N]⟩ : Shape).Idx → EReal) (i : (⟨3, ![L, M, N]⟩ : Shape).Idx) (a b c : ℕ) (ha : (i 0).val = a)
    (hb : (i 1).val = b) (hc : (i 2).val = c) : x i = at3 x a b c := by
  subst ha hb hc
  rw [at3, dif_pos (show (i 0).val < L ∧ (i 1).val < M ∧ (i 2).val < N from ⟨(i 0).isLt, (i 1).isLt, (i 2).isLt⟩)]
  refine congrArg x (funext fun d => ?_)
  match d with
  | ⟨0, _⟩ => rfl
  | ⟨1, _⟩ => rfl
  | ⟨2, _⟩ => rfl

/-- The arrays of one of the two batches of sequences: activations, weights, the two gates before each sequence, the
    convolution's weights and its bias. -/
structure Args where
  x : ℕ → ℕ → EReal
  w : ℕ → ℕ → EReal
  s : ℕ → ℕ → ℕ → EReal
  cw : ℕ → ℕ → EReal
  cb : ℕ → EReal

/-- The same from arrays. -/
abbrev args {R L Q : ℕ} (X : (⟨2, ![R, 4096]⟩ : Shape).Idx → EReal) (W : (⟨3, ![L, 4096, 22016]⟩ : Shape).Idx → EReal)
    (S : (⟨3, ![Q, 2, 11008]⟩ : Shape).Idx → EReal) (CW : (⟨2, ![3, 11008]⟩ : Shape).Idx → EReal) (CB : (⟨1, ![11008]⟩ : Shape).Idx → EReal) : Args :=
  ⟨at2 X, at3 W 0, at3 S, at2 CW, at1 CB⟩

/-- The value of a row and column. -/
def val (A : Args) (r j : ℕ) : EReal := ∑ k : Fin 4096, A.x r k.val * A.w k.val j
/-- The gate of a row and column. -/
def gate (A : Args) (r j : ℕ) : EReal := ∑ k : Fin 4096, A.x r k.val * A.w k.val (11008 + j)
/-- The gates of sequence `b` of length `T` with the two before it in front. -/
def ext (A : Args) (T b t j : ℕ) : EReal := if t < 2 then A.s b t j else gate A (T * b + (t - 2)) j
/-- The convolution over three gates. -/
def conv (A : Args) (T b t j : ℕ) : EReal :=
  A.cb j + A.cw 0 j * ext A T b t j + A.cw 1 j * ext A T b (t + 1) j + A.cw 2 j * ext A T b (t + 2) j
/-- A result element from its gate and its value. -/
def glu (z v : EReal) : EReal := z * Ideal.logistic z * v
/-- The result of a row and column. -/
def act (A : Args) (T r j : ℕ) : EReal := glu (conv A T (r / T) (r % T) j) (val A r j)

/-- The extended gates before the sequence begins. -/
theorem ext_lo (A : Args) (T b t j : ℕ) (h : t < 2) : ext A T b t j = A.s b t j := if_pos h
/-- The extended gates inside the sequence. -/
theorem ext_hi (A : Args) (T b t j r : ℕ) (h : ¬ t < 2) (e : T * b + (t - 2) = r) : ext A T b t j = gate A r j := by
  rw [ext, if_neg h, e]

end Cert.UpIdeal.Block

end
-- ==== Proof.UpIdealTile.lean ====
module

public import proofs.«01_k».proof.Proof.Gen.UpIdeal.Frame
public import proofs.«01_k».proof.Proof.Gen.UpIdeal.Skeleton

@[expose] public section

set_option maxRecDepth 16384
set_option maxHeartbeats 8000000

/-! # The up projection, point by point: what one grid point computes

A grid point multiplies one tile of rows by one column block of the two weight matrices, keeps the products in a pair of
buffers, and passes the tile the point before it kept through the causal convolution and the gate. -/

noncomputable section

namespace Cert.UpIdeal.Block

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The tile of values: eight chunks of rows, each its product with the block of weights. -/
def tileV (x : Vec F S1024x4096 .bf16) (w : Vec F S4096x256 .bf16) : Vec F S1024x256 .f32 :=
  View.canon [⟨(Rect.unit (s := S1024x256) ![896, 0] S128x256.size inb_S1024x256_S128x256_896_0), k0_pay16 (View.ld x (Rect.unit (s := S1024x4096) ![896, 0] S128x4096.size inb_S1024x4096_S128x4096_896_0)) w⟩,
    ⟨(Rect.unit (s := S1024x256) ![768, 0] S128x256.size inb_S1024x256_S128x256_768_0), k0_pay16 (View.ld x (Rect.unit (s := S1024x4096) ![768, 0] S128x4096.size inb_S1024x4096_S128x4096_768_0)) w⟩,
    ⟨(Rect.unit (s := S1024x256) ![640, 0] S128x256.size inb_S1024x256_S128x256_640_0), k0_pay16 (View.ld x (Rect.unit (s := S1024x4096) ![640, 0] S128x4096.size inb_S1024x4096_S128x4096_640_0)) w⟩,
    ⟨(Rect.unit (s := S1024x256) ![512, 0] S128x256.size inb_S1024x256_S128x256_512_0), k0_pay16 (View.ld x (Rect.unit (s := S1024x4096) ![512, 0] S128x4096.size inb_S1024x4096_S128x4096_512_0)) w⟩,
    ⟨(Rect.unit (s := S1024x256) ![384, 0] S128x256.size inb_S1024x256_S128x256_384_0), k0_pay16 (View.ld x (Rect.unit (s := S1024x4096) ![384, 0] S128x4096.size inb_S1024x4096_S128x4096_384_0)) w⟩,
    ⟨(Rect.unit (s := S1024x256) ![256, 0] S128x256.size inb_S1024x256_S128x256_256_0), k0_pay16 (View.ld x (Rect.unit (s := S1024x4096) ![256, 0] S128x4096.size inb_S1024x4096_S128x4096_256_0)) w⟩,
    ⟨(Rect.unit (s := S1024x256) ![128, 0] S128x256.size inb_S1024x256_S128x256_128_0), k0_pay16 (View.ld x (Rect.unit (s := S1024x4096) ![128, 0] S128x4096.size inb_S1024x4096_S128x4096_128_0)) w⟩,
    ⟨(Rect.unit (s := S1024x256) ![0, 0] S128x256.size inb_S1024x256_S128x256_0_0), k0_pay16 (View.ld x (Rect.unit (s := S1024x4096) ![0, 0] S128x4096.size inb_S1024x4096_S128x4096_0_0)) w⟩]
/-- The tile of gates: eight rows carried over, then eight chunks of products. -/
def tileG (x : Vec F S1024x4096 .bf16) (w : Vec F S4096x256 .bf16) (p : Vec F S8x256 .f32) : Vec F S1032x256 .f32 :=
  View.canon (⟨(Rect.unit (s := S1032x256) ![0, 0] S8x256.size inb_S1032x256_S8x256_0_0), p⟩ :: [⟨(Rect.unit (s := S1032x256) ![904, 0] S128x256.size inb_S1032x256_S128x256_904_0), k0_pay17 (View.ld x (Rect.unit (s := S1024x4096) ![896, 0] S128x4096.size inb_S1024x4096_S128x4096_896_0)) w⟩,
    ⟨(Rect.unit (s := S1032x256) ![776, 0] S128x256.size inb_S1032x256_S128x256_776_0), k0_pay17 (View.ld x (Rect.unit (s := S1024x4096) ![768, 0] S128x4096.size inb_S1024x4096_S128x4096_768_0)) w⟩,
    ⟨(Rect.unit (s := S1032x256) ![648, 0] S128x256.size inb_S1032x256_S128x256_648_0), k0_pay17 (View.ld x (Rect.unit (s := S1024x4096) ![640, 0] S128x4096.size inb_S1024x4096_S128x4096_640_0)) w⟩,
    ⟨(Rect.unit (s := S1032x256) ![520, 0] S128x256.size inb_S1032x256_S128x256_520_0), k0_pay17 (View.ld x (Rect.unit (s := S1024x4096) ![512, 0] S128x4096.size inb_S1024x4096_S128x4096_512_0)) w⟩,
    ⟨(Rect.unit (s := S1032x256) ![392, 0] S128x256.size inb_S1032x256_S128x256_392_0), k0_pay17 (View.ld x (Rect.unit (s := S1024x4096) ![384, 0] S128x4096.size inb_S1024x4096_S128x4096_384_0)) w⟩,
    ⟨(Rect.unit (s := S1032x256) ![264, 0] S128x256.size inb_S1032x256_S128x256_264_0), k0_pay17 (View.ld x (Rect.unit (s := S1024x4096) ![256, 0] S128x4096.size inb_S1024x4096_S128x4096_256_0)) w⟩,
    ⟨(Rect.unit (s := S1032x256) ![136, 0] S128x256.size inb_S1032x256_S128x256_136_0), k0_pay17 (View.ld x (Rect.unit (s := S1024x4096) ![128, 0] S128x4096.size inb_S1024x4096_S128x4096_128_0)) w⟩,
    ⟨(Rect.unit (s := S1032x256) ![8, 0] S128x256.size inb_S1032x256_S128x256_8_0), k0_pay17 (View.ld x (Rect.unit (s := S1024x4096) ![0, 0] S128x4096.size inb_S1024x4096_S128x4096_0_0)) w⟩])
/-- The tile of results of the convolution and the gate. -/
def tileA (V : Vec F S1024x256 .f32) (G : Vec F S1032x256 .f32) (cw : Vec F S8x256 .f32) (cb : Vec F S1x256 .f32) : Vec F S1024x256 .bf16 :=
  View.canon [⟨(Rect.unit (s := S1024x256) ![896, 0] S128x256.size inb_S1024x256_S128x256_896_0), k0_pay54 (View.ld G (Rect.unit (s := S1032x256) ![896, 0] S136x256.size inb_S1032x256_S136x256_896_0)) (View.ld V (Rect.unit (s := S1024x256) ![896, 0] S128x256.size inb_S1024x256_S128x256_896_0)) (View.ld cb (Rect.unit (s := S1x256) ![0, 0] S1x256.size inb_S1x256_S1x256_0_0)) (View.ld cw (Rect.unit (s := S8x256) ![0, 0] S1x256.size inb_S8x256_S1x256_0_0)) (View.ld cw (Rect.unit (s := S8x256) ![1, 0] S1x256.size inb_S8x256_S1x256_1_0)) (View.ld cw (Rect.unit (s := S8x256) ![2, 0] S1x256.size inb_S8x256_S1x256_2_0))⟩,
    ⟨(Rect.unit (s := S1024x256) ![768, 0] S128x256.size inb_S1024x256_S128x256_768_0), k0_pay54 (View.ld G (Rect.unit (s := S1032x256) ![768, 0] S136x256.size inb_S1032x256_S136x256_768_0)) (View.ld V (Rect.unit (s := S1024x256) ![768, 0] S128x256.size inb_S1024x256_S128x256_768_0)) (View.ld cb (Rect.unit (s := S1x256) ![0, 0] S1x256.size inb_S1x256_S1x256_0_0)) (View.ld cw (Rect.unit (s := S8x256) ![0, 0] S1x256.size inb_S8x256_S1x256_0_0)) (View.ld cw (Rect.unit (s := S8x256) ![1, 0] S1x256.size inb_S8x256_S1x256_1_0)) (View.ld cw (Rect.unit (s := S8x256) ![2, 0] S1x256.size inb_S8x256_S1x256_2_0))⟩,
    ⟨(Rect.unit (s := S1024x256) ![640, 0] S128x256.size inb_S1024x256_S128x256_640_0), k0_pay54 (View.ld G (Rect.unit (s := S1032x256) ![640, 0] S136x256.size inb_S1032x256_S136x256_640_0)) (View.ld V (Rect.unit (s := S1024x256) ![640, 0] S128x256.size inb_S1024x256_S128x256_640_0)) (View.ld cb (Rect.unit (s := S1x256) ![0, 0] S1x256.size inb_S1x256_S1x256_0_0)) (View.ld cw (Rect.unit (s := S8x256) ![0, 0] S1x256.size inb_S8x256_S1x256_0_0)) (View.ld cw (Rect.unit (s := S8x256) ![1, 0] S1x256.size inb_S8x256_S1x256_1_0)) (View.ld cw (Rect.unit (s := S8x256) ![2, 0] S1x256.size inb_S8x256_S1x256_2_0))⟩,
    ⟨(Rect.unit (s := S1024x256) ![512, 0] S128x256.size inb_S1024x256_S128x256_512_0), k0_pay54 (View.ld G (Rect.unit (s := S1032x256) ![512, 0] S136x256.size inb_S1032x256_S136x256_512_0)) (View.ld V (Rect.unit (s := S1024x256) ![512, 0] S128x256.size inb_S1024x256_S128x256_512_0)) (View.ld cb (Rect.unit (s := S1x256) ![0, 0] S1x256.size inb_S1x256_S1x256_0_0)) (View.ld cw (Rect.unit (s := S8x256) ![0, 0] S1x256.size inb_S8x256_S1x256_0_0)) (View.ld cw (Rect.unit (s := S8x256) ![1, 0] S1x256.size inb_S8x256_S1x256_1_0)) (View.ld cw (Rect.unit (s := S8x256) ![2, 0] S1x256.size inb_S8x256_S1x256_2_0))⟩,
    ⟨(Rect.unit (s := S1024x256) ![384, 0] S128x256.size inb_S1024x256_S128x256_384_0), k0_pay54 (View.ld G (Rect.unit (s := S1032x256) ![384, 0] S136x256.size inb_S1032x256_S136x256_384_0)) (View.ld V (Rect.unit (s := S1024x256) ![384, 0] S128x256.size inb_S1024x256_S128x256_384_0)) (View.ld cb (Rect.unit (s := S1x256) ![0, 0] S1x256.size inb_S1x256_S1x256_0_0)) (View.ld cw (Rect.unit (s := S8x256) ![0, 0] S1x256.size inb_S8x256_S1x256_0_0)) (View.ld cw (Rect.unit (s := S8x256) ![1, 0] S1x256.size inb_S8x256_S1x256_1_0)) (View.ld cw (Rect.unit (s := S8x256) ![2, 0] S1x256.size inb_S8x256_S1x256_2_0))⟩,
    ⟨(Rect.unit (s := S1024x256) ![256, 0] S128x256.size inb_S1024x256_S128x256_256_0), k0_pay54 (View.ld G (Rect.unit (s := S1032x256) ![256, 0] S136x256.size inb_S1032x256_S136x256_256_0)) (View.ld V (Rect.unit (s := S1024x256) ![256, 0] S128x256.size inb_S1024x256_S128x256_256_0)) (View.ld cb (Rect.unit (s := S1x256) ![0, 0] S1x256.size inb_S1x256_S1x256_0_0)) (View.ld cw (Rect.unit (s := S8x256) ![0, 0] S1x256.size inb_S8x256_S1x256_0_0)) (View.ld cw (Rect.unit (s := S8x256) ![1, 0] S1x256.size inb_S8x256_S1x256_1_0)) (View.ld cw (Rect.unit (s := S8x256) ![2, 0] S1x256.size inb_S8x256_S1x256_2_0))⟩,
    ⟨(Rect.unit (s := S1024x256) ![128, 0] S128x256.size inb_S1024x256_S128x256_128_0), k0_pay54 (View.ld G (Rect.unit (s := S1032x256) ![128, 0] S136x256.size inb_S1032x256_S136x256_128_0)) (View.ld V (Rect.unit (s := S1024x256) ![128, 0] S128x256.size inb_S1024x256_S128x256_128_0)) (View.ld cb (Rect.unit (s := S1x256) ![0, 0] S1x256.size inb_S1x256_S1x256_0_0)) (View.ld cw (Rect.unit (s := S8x256) ![0, 0] S1x256.size inb_S8x256_S1x256_0_0)) (View.ld cw (Rect.unit (s := S8x256) ![1, 0] S1x256.size inb_S8x256_S1x256_1_0)) (View.ld cw (Rect.unit (s := S8x256) ![2, 0] S1x256.size inb_S8x256_S1x256_2_0))⟩,
    ⟨(Rect.unit (s := S1024x256) ![0, 0] S128x256.size inb_S1024x256_S128x256_0_0), k0_pay54 (View.ld G (Rect.unit (s := S1032x256) ![0, 0] S136x256.size inb_S1032x256_S136x256_0_0)) (View.ld V (Rect.unit (s := S1024x256) ![0, 0] S128x256.size inb_S1024x256_S128x256_0_0)) (View.ld cb (Rect.unit (s := S1x256) ![0, 0] S1x256.size inb_S1x256_S1x256_0_0)) (View.ld cw (Rect.unit (s := S8x256) ![0, 0] S1x256.size inb_S8x256_S1x256_0_0)) (View.ld cw (Rect.unit (s := S8x256) ![1, 0] S1x256.size inb_S8x256_S1x256_1_0)) (View.ld cw (Rect.unit (s := S8x256) ![2, 0] S1x256.size inb_S8x256_S1x256_2_0))⟩]
/-- The last eight gates of a tile. -/
def tailG (G : Vec F S1032x256 .f32) : Vec F S8x256 .f32 := (View.ld G (Rect.unit (s := S1032x256) ![1024, 0] S8x256.size inb_S1032x256_S8x256_1024_0))
/-- The block of last gates written out. -/
def tileS (G : Vec F S1032x256 .f32) : Vec F S1x8x256 .f32 := View.canon [⟨(Rect.unit (s := S1x8x256) ![0, 0, 0] S1x8x256.size inb_S1x8x256_S1x8x256_0_0_0), k0_pay96 (tailG G)⟩]
/-- The test for the first tile of a sequence. -/
def seqBit (i : grid0.Coords) : BitVec 1 := Scalar.cmpi .eq (Scalar.andi (Scalar.andi (BitVec.ofNat 32 (i 0).val) 7#32) 1#32) 0#32
/-- The eight rows before a tile: the initial ones at the start of a sequence, else the last of the tile before. -/
def before8 (i : grid0.Coords) (init : Vec F S1x8x256 .f32) (G : Vec F S1032x256 .f32) : Vec F S8x256 .f32 :=
  k0_pay4 (tailG G) (seqBit i) (View.ld init (Rect.unit (s := S1x8x256) ![0, 0, 0] S1x8x256.size inb_S1x8x256_S1x8x256_0_0_0))
/-- The block of the other weights, at the narrower width. -/
def tileD (wd : Vec F S1x32x4096 .f32) : Vec F S32x4096 .bf16 := View.canon [⟨(Rect.unit (s := S32x4096) ![0, 0] S32x4096.size inb_S32x4096_S32x4096_0_0), k0_pay15 (View.ld wd (Rect.unit (s := S1x32x4096) ![0, 0, 0] S1x32x4096.size inb_S1x32x4096_S1x32x4096_0_0_0))⟩]
/-- A block of value weights, at the narrower width. -/
def castV (w : Vec F S1x4096x256 .f32) : Vec F S4096x256 .bf16 := View.canon [⟨(Rect.unit (s := S4096x256) ![0, 0] S4096x256.size inb_S4096x256_S4096x256_0_0), k0_pay6 (View.ld w (Rect.unit (s := S1x4096x256) ![0, 0, 0] S1x4096x256.size inb_S1x4096x256_S1x4096x256_0_0_0))⟩]
/-- A block of gate weights, at the narrower width. -/
def castG (w : Vec F S1x4096x256 .f32) : Vec F S4096x256 .bf16 := View.canon [⟨(Rect.unit (s := S4096x256) ![0, 0] S4096x256.size inb_S4096x256_S4096x256_0_0), k0_pay7 (View.ld w (Rect.unit (s := S1x4096x256) ![0, 0, 0] S1x4096x256.size inb_S1x4096x256_S1x4096x256_0_0_0))⟩]
/-- The gates of the short sequences. -/
def shortG (xs : Vec F S32x4096 .bf16) (wg : Vec F S4096x256 .bf16) : Vec F S32x256 .f32 :=
  View.canon [⟨(Rect.unit (s := S32x256) ![0, 0] S32x256.size inb_S32x256_S32x256_0_0), k0_pay9 (View.ld xs (Rect.unit (s := S32x4096) ![0, 0] S32x4096.size inb_S32x4096_S32x4096_0_0)) wg⟩]
/-- The results of the short sequences. -/
def shortA (xs : Vec F S32x4096 .bf16) (wv wg : Vec F S4096x256 .bf16) (cw : Vec F S8x256 .f32) (cb : Vec F S1x256 .f32) (p1 p2 : Vec F S32x256 .f32) : Vec F S32x256 .bf16 :=
  View.canon [⟨(Rect.unit (s := S32x256) ![0, 0] S32x256.size inb_S32x256_S32x256_0_0), k0_pay3 (k0_pay8 (View.ld xs (Rect.unit (s := S32x4096) ![0, 0] S32x4096.size inb_S32x4096_S32x4096_0_0)) wv) (k0_pay9 (View.ld xs (Rect.unit (s := S32x4096) ![0, 0] S32x4096.size inb_S32x4096_S32x4096_0_0)) wg)
    (k0_pay11 (View.ld xs (Rect.unit (s := S32x4096) ![0, 0] S32x4096.size inb_S32x4096_S32x4096_0_0)) wg (View.ld p1 (Rect.unit (s := S32x256) ![0, 0] S32x256.size inb_S32x256_S32x256_0_0))) k0_pay12 (k0_pay13 (View.ld xs (Rect.unit (s := S32x4096) ![0, 0] S32x4096.size inb_S32x4096_S32x4096_0_0)) wg) (k0_pay14 (View.ld p2 (Rect.unit (s := S32x256) ![0, 0] S32x256.size inb_S32x256_S32x256_0_0)))
    (View.ld cb (Rect.unit (s := S1x256) ![0, 0] S1x256.size inb_S1x256_S1x256_0_0)) (View.ld cw (Rect.unit (s := S8x256) ![0, 0] S1x256.size inb_S8x256_S1x256_0_0)) (View.ld cw (Rect.unit (s := S8x256) ![1, 0] S1x256.size inb_S8x256_S1x256_1_0)) (View.ld cw (Rect.unit (s := S8x256) ![2, 0] S1x256.size inb_S8x256_S1x256_2_0))⟩]

/-- Two buffers of zeros, as the first point stores them. -/
def zeroV : Vec F S1024x256 .f32 := View.canon [⟨(Rect.unit (s := S1024x256) ![0, 0] S1024x256.size inb_S1024x256_S1024x256_0_0), k0_pay1⟩]
/-- The same for the gates. -/
def zeroG : Vec F S1032x256 .f32 := View.canon [⟨(Rect.unit (s := S1032x256) ![0, 0] S1032x256.size inb_S1032x256_S1032x256_0_0), k0_pay2⟩]

/-- The stores cover the buffer. -/
theorem cover1024_f32 (p0 p1 p2 p3 p4 p5 p6 p7 : Vec F S128x256 .f32) (y : S1024x256.Idx) : ∃ pc ∈ ([⟨(Rect.unit (s := S1024x256) ![896, 0] S128x256.size inb_S1024x256_S128x256_896_0), p7⟩, ⟨(Rect.unit (s := S1024x256) ![768, 0] S128x256.size inb_S1024x256_S128x256_768_0), p6⟩, ⟨(Rect.unit (s := S1024x256) ![640, 0] S128x256.size inb_S1024x256_S128x256_640_0), p5⟩, ⟨(Rect.unit (s := S1024x256) ![512, 0] S128x256.size inb_S1024x256_S128x256_512_0), p4⟩, ⟨(Rect.unit (s := S1024x256) ![384, 0] S128x256.size inb_S1024x256_S128x256_384_0), p3⟩, ⟨(Rect.unit (s := S1024x256) ![256, 0] S128x256.size inb_S1024x256_S128x256_256_0), p2⟩, ⟨(Rect.unit (s := S1024x256) ![128, 0] S128x256.size inb_S1024x256_S128x256_128_0), p1⟩, ⟨(Rect.unit (s := S1024x256) ![0, 0] S128x256.size inb_S1024x256_S128x256_0_0), p0⟩] : List (View.Piece (Elt F) S1024x256 .f32)), y ∈ pc.1.set :=
  View.cover_of_tiled [⟨(Rect.unit (s := S1024x256) ![896, 0] S128x256.size inb_S1024x256_S128x256_896_0), p7⟩, ⟨(Rect.unit (s := S1024x256) ![768, 0] S128x256.size inb_S1024x256_S128x256_768_0), p6⟩, ⟨(Rect.unit (s := S1024x256) ![640, 0] S128x256.size inb_S1024x256_S128x256_640_0), p5⟩, ⟨(Rect.unit (s := S1024x256) ![512, 0] S128x256.size inb_S1024x256_S128x256_512_0), p4⟩, ⟨(Rect.unit (s := S1024x256) ![384, 0] S128x256.size inb_S1024x256_S128x256_384_0), p3⟩, ⟨(Rect.unit (s := S1024x256) ![256, 0] S128x256.size inb_S1024x256_S128x256_256_0), p2⟩, ⟨(Rect.unit (s := S1024x256) ![128, 0] S128x256.size inb_S1024x256_S128x256_128_0), p1⟩, ⟨(Rect.unit (s := S1024x256) ![0, 0] S128x256.size inb_S1024x256_S128x256_0_0), p0⟩] S128x256.size (by rfl) y

/-- The stores cover the buffer. -/
theorem cover1024_bf16 (p0 p1 p2 p3 p4 p5 p6 p7 : Vec F S128x256 .bf16) (y : S1024x256.Idx) : ∃ pc ∈ ([⟨(Rect.unit (s := S1024x256) ![896, 0] S128x256.size inb_S1024x256_S128x256_896_0), p7⟩, ⟨(Rect.unit (s := S1024x256) ![768, 0] S128x256.size inb_S1024x256_S128x256_768_0), p6⟩, ⟨(Rect.unit (s := S1024x256) ![640, 0] S128x256.size inb_S1024x256_S128x256_640_0), p5⟩, ⟨(Rect.unit (s := S1024x256) ![512, 0] S128x256.size inb_S1024x256_S128x256_512_0), p4⟩, ⟨(Rect.unit (s := S1024x256) ![384, 0] S128x256.size inb_S1024x256_S128x256_384_0), p3⟩, ⟨(Rect.unit (s := S1024x256) ![256, 0] S128x256.size inb_S1024x256_S128x256_256_0), p2⟩, ⟨(Rect.unit (s := S1024x256) ![128, 0] S128x256.size inb_S1024x256_S128x256_128_0), p1⟩, ⟨(Rect.unit (s := S1024x256) ![0, 0] S128x256.size inb_S1024x256_S128x256_0_0), p0⟩] : List (View.Piece (Elt F) S1024x256 .bf16)), y ∈ pc.1.set :=
  View.cover_of_tiled [⟨(Rect.unit (s := S1024x256) ![896, 0] S128x256.size inb_S1024x256_S128x256_896_0), p7⟩, ⟨(Rect.unit (s := S1024x256) ![768, 0] S128x256.size inb_S1024x256_S128x256_768_0), p6⟩, ⟨(Rect.unit (s := S1024x256) ![640, 0] S128x256.size inb_S1024x256_S128x256_640_0), p5⟩, ⟨(Rect.unit (s := S1024x256) ![512, 0] S128x256.size inb_S1024x256_S128x256_512_0), p4⟩, ⟨(Rect.unit (s := S1024x256) ![384, 0] S128x256.size inb_S1024x256_S128x256_384_0), p3⟩, ⟨(Rect.unit (s := S1024x256) ![256, 0] S128x256.size inb_S1024x256_S128x256_256_0), p2⟩, ⟨(Rect.unit (s := S1024x256) ![128, 0] S128x256.size inb_S1024x256_S128x256_128_0), p1⟩, ⟨(Rect.unit (s := S1024x256) ![0, 0] S128x256.size inb_S1024x256_S128x256_0_0), p0⟩] S128x256.size (by rfl) y

/-- The stores cover the buffer. -/
theorem cover1032 (q : Vec F S8x256 .f32) (p0 p1 p2 p3 p4 p5 p6 p7 : Vec F S128x256 .f32) (y : S1032x256.Idx) : ∃ pc ∈ ((⟨(Rect.unit (s := S1032x256) ![0, 0] S8x256.size inb_S1032x256_S8x256_0_0), q⟩ :: [⟨(Rect.unit (s := S1032x256) ![904, 0] S128x256.size inb_S1032x256_S128x256_904_0), p7⟩, ⟨(Rect.unit (s := S1032x256) ![776, 0] S128x256.size inb_S1032x256_S128x256_776_0), p6⟩, ⟨(Rect.unit (s := S1032x256) ![648, 0] S128x256.size inb_S1032x256_S128x256_648_0), p5⟩, ⟨(Rect.unit (s := S1032x256) ![520, 0] S128x256.size inb_S1032x256_S128x256_520_0), p4⟩, ⟨(Rect.unit (s := S1032x256) ![392, 0] S128x256.size inb_S1032x256_S128x256_392_0), p3⟩, ⟨(Rect.unit (s := S1032x256) ![264, 0] S128x256.size inb_S1032x256_S128x256_264_0), p2⟩, ⟨(Rect.unit (s := S1032x256) ![136, 0] S128x256.size inb_S1032x256_S128x256_136_0), p1⟩, ⟨(Rect.unit (s := S1032x256) ![8, 0] S128x256.size inb_S1032x256_S128x256_8_0), p0⟩]) : List (View.Piece (Elt F) S1032x256 .f32)), y ∈ pc.1.set :=
  View.cover_of_tiledBy (⟨(Rect.unit (s := S1032x256) ![0, 0] S8x256.size inb_S1032x256_S8x256_0_0), q⟩ :: [⟨(Rect.unit (s := S1032x256) ![904, 0] S128x256.size inb_S1032x256_S128x256_904_0), p7⟩, ⟨(Rect.unit (s := S1032x256) ![776, 0] S128x256.size inb_S1032x256_S128x256_776_0), p6⟩, ⟨(Rect.unit (s := S1032x256) ![648, 0] S128x256.size inb_S1032x256_S128x256_648_0), p5⟩, ⟨(Rect.unit (s := S1032x256) ![520, 0] S128x256.size inb_S1032x256_S128x256_520_0), p4⟩, ⟨(Rect.unit (s := S1032x256) ![392, 0] S128x256.size inb_S1032x256_S128x256_392_0), p3⟩, ⟨(Rect.unit (s := S1032x256) ![264, 0] S128x256.size inb_S1032x256_S128x256_264_0), p2⟩, ⟨(Rect.unit (s := S1032x256) ![136, 0] S128x256.size inb_S1032x256_S128x256_136_0), p1⟩, ⟨(Rect.unit (s := S1032x256) ![8, 0] S128x256.size inb_S1032x256_S128x256_8_0), p0⟩]) ![8, 256] (by sl_kernel_rfl) y

/-- The stores cover the buffer. -/
theorem coverS (p : Vec F S1x8x256 .f32) (y : S1x8x256.Idx) : ∃ pc ∈ ([⟨(Rect.unit (s := S1x8x256) ![0, 0, 0] S1x8x256.size inb_S1x8x256_S1x8x256_0_0_0), p⟩] : List (View.Piece (Elt F) S1x8x256 .f32)), y ∈ pc.1.set :=
  View.cover_of_tiled [⟨(Rect.unit (s := S1x8x256) ![0, 0, 0] S1x8x256.size inb_S1x8x256_S1x8x256_0_0_0), p⟩] S1x8x256.size (by rfl) y

/-- The stores cover the buffer. -/
theorem coverD (p : Vec F S32x4096 .bf16) (y : S32x4096.Idx) : ∃ pc ∈ ([⟨(Rect.unit (s := S32x4096) ![0, 0] S32x4096.size inb_S32x4096_S32x4096_0_0), p⟩] : List (View.Piece (Elt F) S32x4096 .bf16)), y ∈ pc.1.set :=
  View.cover_of_tiled [⟨(Rect.unit (s := S32x4096) ![0, 0] S32x4096.size inb_S32x4096_S32x4096_0_0), p⟩] S32x4096.size (by rfl) y

/-- The stores cover the buffer. -/
theorem coverW (p : Vec F S4096x256 .bf16) (y : S4096x256.Idx) : ∃ pc ∈ ([⟨(Rect.unit (s := S4096x256) ![0, 0] S4096x256.size inb_S4096x256_S4096x256_0_0), p⟩] : List (View.Piece (Elt F) S4096x256 .bf16)), y ∈ pc.1.set :=
  View.cover_of_tiled [⟨(Rect.unit (s := S4096x256) ![0, 0] S4096x256.size inb_S4096x256_S4096x256_0_0), p⟩] S4096x256.size (by rfl) y

/-- The stores cover the buffer. -/
theorem coverA32 (p : Vec F S32x256 .bf16) (y : S32x256.Idx) : ∃ pc ∈ ([⟨(Rect.unit (s := S32x256) ![0, 0] S32x256.size inb_S32x256_S32x256_0_0), p⟩] : List (View.Piece (Elt F) S32x256 .bf16)), y ∈ pc.1.set :=
  View.cover_of_tiled [⟨(Rect.unit (s := S32x256) ![0, 0] S32x256.size inb_S32x256_S32x256_0_0), p⟩] S32x256.size (by rfl) y

/-- The stores cover the buffer. -/
theorem coverG32 (p : Vec F S32x256 .f32) (y : S32x256.Idx) : ∃ pc ∈ ([⟨(Rect.unit (s := S32x256) ![0, 0] S32x256.size inb_S32x256_S32x256_0_0), p⟩] : List (View.Piece (Elt F) S32x256 .f32)), y ∈ pc.1.set :=
  View.cover_of_tiled [⟨(Rect.unit (s := S32x256) ![0, 0] S32x256.size inb_S32x256_S32x256_0_0), p⟩] S32x256.size (by rfl) y

/-- The stores cover the buffer. -/
theorem coverV0 (p : Vec F S1024x256 .f32) (y : S1024x256.Idx) : ∃ pc ∈ ([⟨(Rect.unit (s := S1024x256) ![0, 0] S1024x256.size inb_S1024x256_S1024x256_0_0), p⟩] : List (View.Piece (Elt F) S1024x256 .f32)), y ∈ pc.1.set :=
  View.cover_of_tiled [⟨(Rect.unit (s := S1024x256) ![0, 0] S1024x256.size inb_S1024x256_S1024x256_0_0), p⟩] S1024x256.size (by rfl) y

/-- The stores cover the buffer. -/
theorem coverG0 (p : Vec F S1032x256 .f32) (y : S1032x256.Idx) : ∃ pc ∈ ([⟨(Rect.unit (s := S1032x256) ![0, 0] S1032x256.size inb_S1032x256_S1032x256_0_0), p⟩] : List (View.Piece (Elt F) S1032x256 .f32)), y ∈ pc.1.set :=
  View.cover_of_tiled [⟨(Rect.unit (s := S1032x256) ![0, 0] S1032x256.size inb_S1032x256_S1032x256_0_0), p⟩] S1032x256.size (by rfl) y

end Cert.UpIdeal.Block

end
-- ==== Proof.UpPay.lean ====
/-
  What the up projection's body stores at a grid point, element by element.
-/
module

public import proofs.«01_k».proof.Proof.UpSpec
public import proofs.«01_k».proof.Proof.UpIdealTile

@[expose] public section

set_option maxRecDepth 16384

noncomputable section

namespace Cert.UpIdeal.Block

open Cert.UpIdeal Cert.UpIdeal.Gen Idealize.ShloMosaic Idealize.ShloMosaic.TcCoe Idealize.SL.Sem

/-- One element of a chunk's product with the value weights. -/
theorem pay16_apply (x : Vec Ideal S128x4096 .bf16) (w : Vec Ideal S4096x256 .bf16) (a : Fin 128) (b : Fin 256) :
    k0_pay16 (F := Ideal) x w (ix2 a b) = ∑ k : Fin 4096, x (ix2 a k) * w (ix2 k b) := by
  pointwise [k0_pay16]

/-- The same with the gate weights. -/
theorem pay17_apply (x : Vec Ideal S128x4096 .bf16) (w : Vec Ideal S4096x256 .bf16) (a : Fin 128) (b : Fin 256) :
    k0_pay17 (F := Ideal) x w (ix2 a b) = ∑ k : Fin 4096, x (ix2 a k) * w (ix2 k b) := by
  pointwise [k0_pay17]

/-- One element of the short sequences' values. -/
theorem pay8_apply (x : Vec Ideal S32x4096 .bf16) (w : Vec Ideal S4096x256 .bf16) (a : Fin 32) (b : Fin 256) :
    k0_pay8 (F := Ideal) x w (ix2 a b) = ∑ k : Fin 4096, x (ix2 a k) * w (ix2 k b) := by
  pointwise [k0_pay8]

/-- One element of the short sequences' gates. -/
theorem pay9_apply (x : Vec Ideal S32x4096 .bf16) (w : Vec Ideal S4096x256 .bf16) (a : Fin 32) (b : Fin 256) :
    k0_pay9 (F := Ideal) x w (ix2 a b) = ∑ k : Fin 4096, x (ix2 a k) * w (ix2 k b) := by
  pointwise [k0_pay9]

/-- The narrower value weights are the value weights. -/
theorem pay6_apply (x : Vec Ideal S1x4096x256 .f32) (a : Fin 4096) (b : Fin 256) :
    k0_pay6 (F := Ideal) x (ix2 a b) = x (ix3 0 a b) := by
  pointwise [k0_pay6]

/-- The narrower gate weights are the gate weights. -/
theorem pay7_apply (x : Vec Ideal S1x4096x256 .f32) (a : Fin 4096) (b : Fin 256) :
    k0_pay7 (F := Ideal) x (ix2 a b) = x (ix3 0 a b) := by
  pointwise [k0_pay7]

/-- The last gates of a tile, as a stack of one. -/
theorem pay96_apply (x : Vec Ideal S8x256 .f32) (a : Fin 8) (b : Fin 256) :
    k0_pay96 (F := Ideal) x (ix3 0 a b) = x (ix2 a b) := by
  pointwise [k0_pay96]

/-- The narrower other weights are the other weights. -/
theorem pay15_apply (x : Vec Ideal S1x32x4096 .f32) (a : Fin 32) (b : Fin 4096) :
    k0_pay15 (F := Ideal) x (ix2 a b) = x (ix3 0 a b) := by
  pointwise [k0_pay15]

/-- One element of a chunk of results. -/
theorem pay54_apply (g : Vec Ideal S136x256 .f32) (v : Vec Ideal S128x256 .f32) (cb c0 c1 c2 : Vec Ideal S1x256 .f32) (a : Fin 128) (b : Fin 256) (z : EReal)
  (hz : z = cb (ix2 0 b) + c0 (ix2 0 b) * g (ix2 ⟨a.val + 6, by omega⟩ b) + c1 (ix2 0 b) * g (ix2 ⟨a.val + 7, by omega⟩ b) + c2 (ix2 0 b) * g (ix2 ⟨a.val + 8, by omega⟩ b)) :
    k0_pay54 (F := Ideal) g v cb c0 c1 c2 (ix2 a b) = glu z (v (ix2 a b)) := by
  unfold glu
  pointwise [k0_pay54]
  have h2 : (8 + a.val + 136 - 2) % 136 = a.val + 6 := by omega
  have h1 : (8 + a.val + 136 - 1) % 136 = a.val + 7 := by omega
  have h0 : 8 + a.val = a.val + 8 := by omega
  simp only [h2, h1]
  simp only [h0]
  rw [hz]

/-- One element of the short results. -/
theorem pay3_apply (v g r1 : Vec Ideal S32x256 .f32) (q : IVec S32x256 1) (r2 p : Vec Ideal S32x256 .f32) (cb c0 c1 c2 : Vec Ideal S1x256 .f32) (a : Fin 32) (b : Fin 256) (z : EReal)
  (hz : z = cb (ix2 0 b) + c0 (ix2 0 b) * Scalar.select (q (ix2 a b)) (r2 (ix2 a b)) (p (ix2 a b)) +
            c1 (ix2 0 b) * r1 (ix2 a b) +
          c2 (ix2 0 b) * g (ix2 a b)) :
    k0_pay3 (F := Ideal) v g r1 q r2 p cb c0 c1 c2 (ix2 a b) = glu z (v (ix2 a b)) := by
  unfold glu
  pointwise [k0_pay3]
  rw [hz]

/-- The gate one place back. -/
theorem pay11_apply (x : Vec Ideal S32x4096 .bf16) (w : Vec Ideal S4096x256 .bf16) (p : Vec Ideal S32x256 .f32) (a : Fin 32) (b : Fin 256) :
    k0_pay11 (F := Ideal) x w p (ix2 a b) = if a.val % 4 = 0 then p (ix2 a b) else k0_pay9 x w (ix2 ⟨a.val - 1, by omega⟩ b) := by
  pointwise [k0_pay11, k0_pay10]
  have e : ∀ a : Fin 32, IntOp.cmpi CmpIPredicate.sge (IntOp.remsi ArithUnit.vector (BitVec.ofNat 32 a.val) 4#32) 1#32 = if a.val % 4 = 0 then 0#1 else 1#1 := by decide +kernel
  rw [e a]
  by_cases h : a.val % 4 = 0
  · rw [if_pos h, if_pos h]; rfl
  · have h1 : (a.val + 32 - 1) % 32 = a.val - 1 := by omega
    rw [if_neg h, if_neg h]; simp only [h1]; rfl

/-- Whether two places back lies inside the sequence. -/
theorem pay12_apply (a : Fin 32) (b : Fin 256) : k0_pay12 (ix2 a b) = if a.val % 4 < 2 then 0#1 else 1#1 := by
  pointwise [k0_pay12, k0_pay10]
  revert a; decide +kernel

/-- The gate two places back. -/
theorem pay13_apply (x : Vec Ideal S32x4096 .bf16) (w : Vec Ideal S4096x256 .bf16) (a : Fin 32) (b : Fin 256) (h : 2 ≤ a.val) :
    k0_pay13 (F := Ideal) x w (ix2 a b) = k0_pay9 x w (ix2 ⟨a.val - 2, by omega⟩ b) := by
  pointwise [k0_pay13]
  have h1 : (a.val + 32 - 2) % 32 = a.val - 2 := by omega
  simp only [h1]

/-- The gates before the short sequences, as they are. -/
theorem pay14_apply (p : Vec Ideal S32x256 .f32) (a : Fin 32) (b : Fin 256) : k0_pay14 (F := Ideal) p (ix2 a b) = p (ix2 a b) := by
  pointwise [k0_pay14]

/-- The choice of the eight rows before a tile. -/
theorem pay4_apply (t : Vec Ideal S8x256 .f32) (q : BitVec 1) (p : Vec Ideal S1x8x256 .f32) (a : Fin 8) (b : Fin 256) :
    k0_pay4 (F := Ideal) t q p (ix2 a b) = if q = 1#1 then p (ix3 0 a b) else t (ix2 a b) := by
  pointwise [k0_pay4]
  by_cases h : q = 1#1
  · rw [if_pos h, h]; rfl
  · rw [if_neg h, ((by revert h; revert q; decide) : q = 0#1)]; rfl

/-- A load of a block of a matrix, at an element. -/
theorem ld2 {e : EltTy} {M N P Q : ℕ} (x : Vec Ideal ⟨2, ![M, N]⟩ e) (o p : ℕ) (h : _) (a : Fin P) (b : Fin Q) (i : (⟨2, ![M, N]⟩ : Shape).Idx)
    (h0 : (i 0).val = o + a.val) (h1 : (i 1).val = p + b.val) :
    View.ld x (Rect.unit (s := ⟨2, ![M, N]⟩) ![o, p] (⟨2, ![P, Q]⟩ : Shape).size h) (ix2 a b) = x i := by
  refine congrArg x (funext fun d => Fin.ext ?_)
  match d with
  | ⟨0, _⟩ => refine Eq.trans ?_ h0.symm; simp [LoadRect.idx_apply]
  | ⟨1, _⟩ => refine Eq.trans ?_ h1.symm; simp [LoadRect.idx_apply]

/-- A load of a whole stack of one matrix, at an element. -/
theorem ld3 {e : EltTy} {M N P : ℕ} (x : Vec Ideal ⟨3, ![M, N, P]⟩ e) (h : _) (a : Fin M) (b : Fin N) (c : Fin P) :
    View.ld x (Rect.unit (s := ⟨3, ![M, N, P]⟩) ![0, 0, 0] (⟨3, ![M, N, P]⟩ : Shape).size h) (ix3 a b c) = x (ix3 a b c) := by
  refine congrArg x (funext fun d => Fin.ext ?_)
  match d with
  | ⟨0, _⟩ => simp [LoadRect.idx_apply]
  | ⟨1, _⟩ => simp [LoadRect.idx_apply]
  | ⟨2, _⟩ => simp [LoadRect.idx_apply]

/-- The values of a tile. -/
def elV (x : Vec Ideal S1024x4096 .bf16) (w : Vec Ideal S4096x256 .bf16) (y : S1024x256.Idx) : EReal :=
  ∑ k : Fin 4096, x (ix2 (y 0) k) * w (ix2 k (y 1))

/-- One chunk of a tile of values, entry by entry. -/
theorem pieceV (o : ℕ) (h0 h2 : _) (x : Vec Ideal S1024x4096 .bf16) (w : Vec Ideal S4096x256 .bf16) (y : S128x256.Idx) :
    k0_pay16 (F := Ideal) (View.ld x (Rect.unit (s := S1024x4096) ![o, 0] S128x4096.size h0)) w y = elV x w ((Rect.unit (s := S1024x256) ![o, 0] S128x256.size h2).emb y) := by
  obtain ⟨a, b, rfl⟩ : ∃ (a : Fin 128) (b : Fin 256), y = ix2 a b := ⟨y 0, y 1, eq_ix2 y⟩
  refine (pay16_apply _ _ _ _).trans (Finset.sum_congr rfl fun k _ => congrArg₂ (· * ·) ?_ (congrArg w ?_))
  · exact ld2 x o 0 h0 a k _ (by simp [Rect.emb_apply]) (by simp)
  · funext d; apply Fin.ext
    match d with
    | ⟨0, _⟩ => rfl
    | ⟨1, _⟩ => simp [Rect.emb_apply]

/-- A tile of values, at an element. -/
theorem tileV_apply (x : Vec Ideal S1024x4096 .bf16) (w : Vec Ideal S4096x256 .bf16) (y : S1024x256.Idx) : tileV (F := Ideal) x w y = elV x w y := by
  unfold tileV
  refine View.canon_apply_of_pieces (Val := Elt Ideal) (S := S1024x256) (e := .f32) (elV x w) _ ?_ y (cover1024_f32 _ _ _ _ _ _ _ _ y)
  intro p hp z
  simp only [List.mem_cons, List.mem_singleton, List.not_mem_nil, or_false] at hp
  rcases hp with rfl | rfl | rfl | rfl | rfl | rfl | rfl | rfl
  · exact pieceV 896 _ inb_S1024x256_S128x256_896_0 x w z
  · exact pieceV 768 _ inb_S1024x256_S128x256_768_0 x w z
  · exact pieceV 640 _ inb_S1024x256_S128x256_640_0 x w z
  · exact pieceV 512 _ inb_S1024x256_S128x256_512_0 x w z
  · exact pieceV 384 _ inb_S1024x256_S128x256_384_0 x w z
  · exact pieceV 256 _ inb_S1024x256_S128x256_256_0 x w z
  · exact pieceV 128 _ inb_S1024x256_S128x256_128_0 x w z
  · exact pieceV 0 _ inb_S1024x256_S128x256_0_0 x w z

/-- The gates of a tile, behind the eight rows before it. -/
def elG (x : Vec Ideal S1024x4096 .bf16) (w : Vec Ideal S4096x256 .bf16) (p : Vec Ideal S8x256 .f32) (y : S1032x256.Idx) : EReal :=
  if h : (y 0).val < 8 then p (ix2 ⟨(y 0).val, h⟩ (y 1)) else ∑ k : Fin 4096, x (ix2 ⟨(y 0).val - 8, by have h1 : (y 0).val < 1032 := (y 0).isLt; omega⟩ k) * w (ix2 k (y 1))

/-- One chunk of a tile of gates, entry by entry. -/
theorem pieceG (o : ℕ) (o' : ℕ) (e : o' = o + 8) (h0 h2 : _) (x : Vec Ideal S1024x4096 .bf16) (w : Vec Ideal S4096x256 .bf16) (p : Vec Ideal S8x256 .f32) (y : S128x256.Idx) :
    k0_pay17 (F := Ideal) (View.ld x (Rect.unit (s := S1024x4096) ![o, 0] S128x4096.size h0)) w y = elG x w p ((Rect.unit (s := S1032x256) ![o', 0] S128x256.size h2).emb y) := by
  obtain ⟨a, b, rfl⟩ : ∃ (a : Fin 128) (b : Fin 256), y = ix2 a b := ⟨y 0, y 1, eq_ix2 y⟩
  have e0 : (((Rect.unit (s := S1032x256) ![o', 0] S128x256.size h2).emb (ix2 a b)) 0).val = o + 8 + a.val := by subst e; simp [Rect.emb_apply]
  unfold elG
  rw [dif_neg (by omega)]
  refine (pay17_apply _ _ _ _).trans (Finset.sum_congr rfl fun k _ => congrArg₂ (· * ·) ?_ (congrArg w ?_))
  · exact ld2 x o 0 h0 a k _ (by show _ - 8 = _; omega) (by simp)
  · funext d; apply Fin.ext
    match d with
    | ⟨0, _⟩ => rfl
    | ⟨1, _⟩ => simp [Rect.emb_apply]

/-- A tile of gates, at an element. -/
theorem tileG_apply (x : Vec Ideal S1024x4096 .bf16) (w : Vec Ideal S4096x256 .bf16) (q : Vec Ideal S8x256 .f32) (y : S1032x256.Idx) : tileG (F := Ideal) x w q y = elG x w q y := by
  unfold tileG
  refine View.canon_apply_of_pieces (Val := Elt Ideal) (S := S1032x256) (e := .f32) (elG x w q) _ ?_ y (cover1032 _ _ _ _ _ _ _ _ _ y)
  intro p hp z
  simp only [List.mem_cons, List.mem_singleton, List.not_mem_nil, or_false] at hp
  rcases hp with rfl | rfl | rfl | rfl | rfl | rfl | rfl | rfl | rfl
  · obtain ⟨a, b, rfl⟩ : ∃ (a : Fin 8) (b : Fin 256), z = ix2 a b := ⟨z 0, z 1, eq_ix2 z⟩
    have e0 : (((Rect.unit (s := S1032x256) ![0, 0] S8x256.size inb_S1032x256_S8x256_0_0).emb (ix2 a b)) 0).val = a.val := by simp [Rect.emb_apply]
    unfold elG
    rw [dif_pos (by rw [e0]; exact a.isLt)]
    refine congrArg q (funext fun d => Fin.ext ?_)
    match d with
    | ⟨0, _⟩ => exact e0.symm
    | ⟨1, _⟩ => simp [Rect.emb_apply]
  · exact pieceG 896 904 rfl _ inb_S1032x256_S128x256_904_0 x w q z
  · exact pieceG 768 776 rfl _ inb_S1032x256_S128x256_776_0 x w q z
  · exact pieceG 640 648 rfl _ inb_S1032x256_S128x256_648_0 x w q z
  · exact pieceG 512 520 rfl _ inb_S1032x256_S128x256_520_0 x w q z
  · exact pieceG 384 392 rfl _ inb_S1032x256_S128x256_392_0 x w q z
  · exact pieceG 256 264 rfl _ inb_S1032x256_S128x256_264_0 x w q z
  · exact pieceG 128 136 rfl _ inb_S1032x256_S128x256_136_0 x w q z
  · exact pieceG 0 8 rfl _ inb_S1032x256_S128x256_8_0 x w q z

/-- The convolution of a tile's gates. -/
def elZ (G : Vec Ideal S1032x256 .f32) (cw : Vec Ideal S8x256 .f32) (cb : Vec Ideal S1x256 .f32) (y : S1024x256.Idx) : EReal :=
  cb (ix2 0 (y 1)) + cw (ix2 0 (y 1)) * G (ix2 ⟨(y 0).val + 6, by have h1 : (y 0).val < 1024 := (y 0).isLt; omega⟩ (y 1))
    + cw (ix2 1 (y 1)) * G (ix2 ⟨(y 0).val + 7, by have h1 : (y 0).val < 1024 := (y 0).isLt; omega⟩ (y 1))
    + cw (ix2 2 (y 1)) * G (ix2 ⟨(y 0).val + 8, by have h1 : (y 0).val < 1024 := (y 0).isLt; omega⟩ (y 1))

/-- The results of a tile. -/
def elA (V : Vec Ideal S1024x256 .f32) (G : Vec Ideal S1032x256 .f32) (cw : Vec Ideal S8x256 .f32) (cb : Vec Ideal S1x256 .f32) (y : S1024x256.Idx) : EReal :=
  glu (elZ G cw cb y) (V y)

/-- One chunk of a tile of activations, entry by entry. -/
theorem pieceA (o : ℕ) (h0 h1 h2 h3 h4 h5 h6 : _) (V : Vec Ideal S1024x256 .f32) (G : Vec Ideal S1032x256 .f32) (cw : Vec Ideal S8x256 .f32) (cb : Vec Ideal S1x256 .f32) (y : S128x256.Idx) :
    k0_pay54 (F := Ideal) (View.ld G (Rect.unit (s := S1032x256) ![o, 0] S136x256.size h0)) (View.ld V (Rect.unit (s := S1024x256) ![o, 0] S128x256.size h1))
      (View.ld cb (Rect.unit (s := S1x256) ![0, 0] S1x256.size h3)) (View.ld cw (Rect.unit (s := S8x256) ![0, 0] S1x256.size h4))
      (View.ld cw (Rect.unit (s := S8x256) ![1, 0] S1x256.size h5)) (View.ld cw (Rect.unit (s := S8x256) ![2, 0] S1x256.size h6)) y
      = elA V G cw cb ((Rect.unit (s := S1024x256) ![o, 0] S128x256.size h2).emb y) := by
  obtain ⟨a, b, rfl⟩ : ∃ (a : Fin 128) (b : Fin 256), y = ix2 a b := ⟨y 0, y 1, eq_ix2 y⟩
  have e0 : (((Rect.unit (s := S1024x256) ![o, 0] S128x256.size h2).emb (ix2 a b)) 0).val = o + a.val := by simp [Rect.emb_apply]
  have e1 : (((Rect.unit (s := S1024x256) ![o, 0] S128x256.size h2).emb (ix2 a b)) 1).val = 0 + b.val := by simp [Rect.emb_apply]
  refine (pay54_apply _ _ _ _ _ _ a b (elZ G cw cb ((Rect.unit (s := S1024x256) ![o, 0] S128x256.size h2).emb (ix2 a b))) ?_).trans ?_
  · unfold elZ
    refine congrArg₂ (· + ·) (congrArg₂ (· + ·) (congrArg₂ (· + ·) ?_ (congrArg₂ (· * ·) ?_ ?_)) (congrArg₂ (· * ·) ?_ ?_)) (congrArg₂ (· * ·) ?_ ?_)
    · exact (ld2 cb 0 0 h3 0 b _ rfl e1).symm
    · exact (ld2 cw 0 0 h4 0 b _ rfl e1).symm
    · exact (ld2 G o 0 h0 ⟨a.val + 6, by omega⟩ b _ (by show _ + 6 = o + (a.val + 6); omega) e1).symm
    · exact (ld2 cw 1 0 h5 0 b _ rfl e1).symm
    · exact (ld2 G o 0 h0 ⟨a.val + 7, by omega⟩ b _ (by show _ + 7 = o + (a.val + 7); omega) e1).symm
    · exact (ld2 cw 2 0 h6 0 b _ rfl e1).symm
    · exact (ld2 G o 0 h0 ⟨a.val + 8, by omega⟩ b _ (by show _ + 8 = o + (a.val + 8); omega) e1).symm
  · unfold elA
    exact congrArg (glu _) (ld2 V o 0 h1 a b _ e0 e1)

/-- A tile of results, at an element. -/
theorem tileA_apply (V : Vec Ideal S1024x256 .f32) (G : Vec Ideal S1032x256 .f32) (cw : Vec Ideal S8x256 .f32) (cb : Vec Ideal S1x256 .f32) (y : S1024x256.Idx) :
    tileA (F := Ideal) V G cw cb y = elA V G cw cb y := by
  unfold tileA
  refine View.canon_apply_of_pieces (Val := Elt Ideal) (S := S1024x256) (e := .bf16) (elA V G cw cb) _ ?_ y (cover1024_bf16 _ _ _ _ _ _ _ _ y)
  intro p hp z
  simp only [List.mem_cons, List.mem_singleton, List.not_mem_nil, or_false] at hp
  rcases hp with rfl | rfl | rfl | rfl | rfl | rfl | rfl | rfl
  · exact pieceA 896 _ _ inb_S1024x256_S128x256_896_0 _ _ _ _ V G cw cb z
  · exact pieceA 768 _ _ inb_S1024x256_S128x256_768_0 _ _ _ _ V G cw cb z
  · exact pieceA 640 _ _ inb_S1024x256_S128x256_640_0 _ _ _ _ V G cw cb z
  · exact pieceA 512 _ _ inb_S1024x256_S128x256_512_0 _ _ _ _ V G cw cb z
  · exact pieceA 384 _ _ inb_S1024x256_S128x256_384_0 _ _ _ _ V G cw cb z
  · exact pieceA 256 _ _ inb_S1024x256_S128x256_256_0 _ _ _ _ V G cw cb z
  · exact pieceA 128 _ _ inb_S1024x256_S128x256_128_0 _ _ _ _ V G cw cb z
  · exact pieceA 0 _ _ inb_S1024x256_S128x256_0_0 _ _ _ _ V G cw cb z

/-- The last eight rows of a tile of gates. -/
theorem tailG_apply (G : Vec Ideal S1032x256 .f32) (a : Fin 8) (b : Fin 256) : tailG (F := Ideal) G (ix2 a b) = G (ix2 ⟨1024 + a.val, by omega⟩ b) :=
  ld2 G 1024 0 _ a b _ rfl (Nat.zero_add _).symm

/-- The block of last gates, at an element. -/
theorem tileS_apply (G : Vec Ideal S1032x256 .f32) (a : Fin 8) (b : Fin 256) : tileS (F := Ideal) G (ix3 0 a b) = G (ix2 ⟨1024 + a.val, by omega⟩ b) := by
  unfold tileS
  rw [View.canon_cons_unit_zero (by decide)]
  exact (pay96_apply _ _ _).trans (tailG_apply G a b)

/-- The block of other weights, at an element. -/
theorem tileD_apply (x : Vec Ideal S1x32x4096 .f32) (a : Fin 32) (b : Fin 4096) : (tileD (F := Ideal) x (ix2 a b) : EReal) = x (ix3 0 a b) := by
  unfold tileD
  rw [View.canon_cons_unit_zero (by decide)]
  exact (pay15_apply _ _ _).trans (ld3 x _ 0 a b)

/-- The eight rows before a tile, at an element. -/
theorem before8_apply (i : grid0.Coords) (p : Vec Ideal S1x8x256 .f32) (G : Vec Ideal S1032x256 .f32) (a : Fin 8) (b : Fin 256) :
    before8 (F := Ideal) i p G (ix2 a b) = if seqBit i = 1#1 then p (ix3 0 a b) else G (ix2 ⟨1024 + a.val, by omega⟩ b) := by
  unfold before8
  rw [pay4_apply, tailG_apply, ld3]

/-- The short sequences' gates, at an element. -/
theorem shortG_apply (xs : Vec Ideal S32x4096 .bf16) (wg : Vec Ideal S4096x256 .bf16) (a : Fin 32) (b : Fin 256) :
    shortG (F := Ideal) xs wg (ix2 a b) = ∑ k : Fin 4096, xs (ix2 a k) * wg (ix2 k b) := by
  unfold shortG
  rw [View.canon_cons_unit_zero (by decide), View.ld_unit_zero (by decide)]
  exact pay9_apply _ _ _ _

/-- The short sequences' results, at an element, from the three gates a row reads and its value. -/
theorem shortA_apply (xs : Vec Ideal S32x4096 .bf16) (wv wg : Vec Ideal S4096x256 .bf16) (cw : Vec Ideal S8x256 .f32) (cb : Vec Ideal S1x256 .f32) (p1 p2 : Vec Ideal S32x256 .f32)
    (a : Fin 32) (b : Fin 256) (f0 f1 f2 v : EReal)
    (hv : ∑ k : Fin 4096, xs (ix2 a k) * wv (ix2 k b) = v) (h2 : ∑ k : Fin 4096, xs (ix2 a k) * wg (ix2 k b) = f2)
    (h1 : (if a.val % 4 = 0 then p1 (ix2 a b) else ∑ k : Fin 4096, xs (ix2 ⟨a.val - 1, by omega⟩ k) * wg (ix2 k b)) = f1)
    (h0 : (if a.val % 4 < 2 then p2 (ix2 a b) else ∑ k : Fin 4096, xs (ix2 ⟨a.val - 2, by omega⟩ k) * wg (ix2 k b)) = f0) :
    (shortA (F := Ideal) xs wv wg cw cb p1 p2 (ix2 a b) : EReal)
      = glu (cb (ix2 0 b) + cw (ix2 0 b) * f0 + cw (ix2 1 b) * f1 + cw (ix2 2 b) * f2) v := by
  unfold shortA
  rw [View.canon_cons_unit_zero (by decide), View.ld_unit_zero (S := S32x4096) (by decide), View.ld_unit_zero (S := S32x256) (X := p1) (by decide), View.ld_unit_zero (S := S32x256) (X := p2) (by decide),
    View.ld_unit_zero (S := S1x256) (by decide)]
  refine (pay3_apply _ _ _ _ _ _ _ _ _ _ a b _ rfl).trans ?_
  rw [pay8_apply, hv]
  refine congrArg (fun z => glu z v) (congrArg₂ (· + ·) (congrArg₂ (· + ·) (congrArg₂ (· + ·) rfl (congrArg₂ (· * ·) ?_ ?_)) (congrArg₂ (· * ·) ?_ ?_)) (congrArg₂ (· * ·) ?_ ?_))
  · exact ld2 cw 0 0 _ 0 b _ rfl (Nat.zero_add _).symm
  · rw [← h0, pay12_apply]
    by_cases h : a.val % 4 < 2
    · rw [if_pos h, if_pos h]; exact pay14_apply _ _ _
    · rw [if_neg h, if_neg h]
      refine Eq.trans (b := k0_pay13 (F := Ideal) xs wg (ix2 a b)) rfl ?_
      rw [pay13_apply _ _ _ _ (by omega), pay9_apply]
  · exact ld2 cw 1 0 _ 0 b _ rfl (Nat.zero_add _).symm
  · rw [← h1, pay11_apply]
    by_cases h : a.val % 4 = 0
    · rw [if_pos h, if_pos h]
    · rw [if_neg h, if_neg h, pay9_apply]
  · exact ld2 cw 2 0 _ 0 b _ rfl (Nat.zero_add _).symm
  · rw [← h2, pay9_apply]

end Cert.UpIdeal.Block

end
-- ==== Proof.UpIdealOdd.lean ====
module

public import proofs.«01_k».proof.Proof.UpIdealTile

@[expose] public section

set_option maxRecDepth 16384
set_option maxHeartbeats 8000000

/-! # The up projection, point by point: the body of the kernel run in one of its cases -/

noncomputable section

namespace Cert.UpIdeal.Block

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A point at an odd place: the second pair of buffers is written, the first read. -/
theorem runOdd (c : Dev nD) (E : Set ℕ) (i : grid0.Coords) (arg1 : Memref sig .tc .vmem S1024x4096 .bf16) (harg1 : arg1.IsWhole) (arg2 : Memref sig .tc .vmem S32x4096 .bf16) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S8x256 .f32) (harg5 : arg5.IsWhole) (arg6 : Memref sig .tc .vmem S1x256 .f32) (harg6 : arg6.IsWhole) (arg7 : Memref sig .tc .vmem S32x256 .f32) (harg7 : arg7.IsWhole) (arg8 : Memref sig .tc .vmem S32x256 .f32) (harg8 : arg8.IsWhole) (arg9 : Memref sig .tc .vmem S8x256 .f32) (harg9 : arg9.IsWhole) (arg10 : Memref sig .tc .vmem S1x256 .f32) (harg10 : arg10.IsWhole) (arg11 : Memref sig .tc .vmem S1x8x256 .f32) (harg11 : arg11.IsWhole) (arg12 : Memref sig .tc .vmem S1x32x4096 .f32) (harg12 : arg12.IsWhole) (arg13 : Memref sig .tc .vmem S1024x256 .bf16) (harg13 : arg13.IsWhole) (arg14 : Memref sig .tc .vmem S1x8x256 .f32) (harg14 : arg14.IsWhole) (arg15 : Memref sig .tc .vmem S32x256 .bf16) (harg15 : arg15.IsWhole) (arg16 : Memref sig .tc .vmem S32x256 .f32) (harg16 : arg16.IsWhole) (arg17 : Memref sig .tc .vmem S32x4096 .bf16) (harg17 : arg17.IsWhole) (arg18 : Memref sig .tc .vmem S4096x256 .bf16) (harg18 : arg18.IsWhole) (arg19 : Memref sig .tc .vmem S4096x256 .bf16) (harg19 : arg19.IsWhole) (arg20 : Memref sig .tc .vmem S1024x256 .f32) (harg20 : arg20.IsWhole) (arg21 : Memref sig .tc .vmem S1032x256 .f32) (harg21 : arg21.IsWhole) (arg22 : Memref sig .tc .vmem S1024x256 .f32) (harg22 : arg22.IsWhole) (arg23 : Memref sig .tc .vmem S1032x256 .f32) (harg23 : arg23.IsWhole)
    (h1 : ¬ Scalar.cmpi .ne (Scalar.extui (Scalar.cmpi .eq (BitVec.ofNat 32 (i 0).val) 0#32) : BitVec 32) 0#32 = 1#1) (h2 : ¬ k0_cond2 i = 1#1) (h3 : ¬ k0_cond3 i = 1#1) (h4 : k0_cond4 i = 1#1)
    (x1 : Vec F S1024x4096 .bf16) (x2 : Vec F S32x4096 .bf16) (x3 : Vec F S1x4096x256 .f32) (x4 : Vec F S1x4096x256 .f32) (x5 : Vec F S8x256 .f32) (x6 : Vec F S1x256 .f32) (x7 : Vec F S32x256 .f32) (x8 : Vec F S32x256 .f32) (x9 : Vec F S8x256 .f32) (x10 : Vec F S1x256 .f32) (x11 : Vec F S1x8x256 .f32) (x12 : Vec F S1x32x4096 .f32) (x15 : Vec F S32x256 .bf16) (x16 : Vec F S32x256 .f32) (x18 : Vec F S4096x256 .bf16) (x19 : Vec F S4096x256 .bf16) (x20 : Vec F S1024x256 .f32) (x21 : Vec F S1032x256 .f32) (K : PUnit → sProp (MT nD τ sig Unit (Elt F) ℕ (UR sig nD τ) ℕ)) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ owns (c : Thread nD τ) arg15 fullShare x15 ∗ owns (c : Thread nD τ) arg16 fullShare x16 ∗ (∃ d, owns (c : Thread nD τ) arg17 fullShare d) ∗ owns (c : Thread nD τ) arg18 fullShare x18 ∗ owns (c : Thread nD τ) arg19 fullShare x19 ∗ owns (c : Thread nD τ) arg20 fullShare x20 ∗ owns (c : Thread nD τ) arg21 fullShare x21 ∗ (∃ d, owns (c : Thread nD τ) arg22 fullShare d) ∗ (∃ d, owns (c : Thread nD τ) arg23 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (tileA x20 x21 x9 x10) ∗ owns (c : Thread nD τ) arg14 fullShare (tileS x21) ∗ owns (c : Thread nD τ) arg15 fullShare x15 ∗ owns (c : Thread nD τ) arg16 fullShare x16 ∗ owns (c : Thread nD τ) arg17 fullShare (tileD x12) ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare (tileV x1 (View.ld x18 (Rect.unit (s := S4096x256) ![0, 0] S4096x256.size inb_S4096x256_S4096x256_0_0))) ∗ owns (c : Thread nD τ) arg23 fullShare (tileG x1 (View.ld x19 (Rect.unit (s := S4096x256) ![0, 0] S4096x256.size inb_S4096x256_S4096x256_0_0)) (before8 i x11 x21))) -∗ K ⟨⟩))
      ⊢ wp frame (wpE (defs₀ (F := F)) Variants.none c none) E (cc0_ffn_up i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_ffn_up_eq_skeleton]; unfold cc0_ffn_up_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%f15, %hf15, H15⟩, ⟨%f16, %hf16, H16⟩, ⟨%d17, %f17, -, H17⟩, ⟨%f18, %hf18, H18⟩, ⟨%f19, %hf19, H19⟩, ⟨%f20, %hf20, H20⟩, ⟨%f21, %hf21, H21⟩, ⟨%d22, %f22, -, H22⟩, ⟨%d23, %f23, -, H23⟩, Hk⟩
  subst hf1 hf2 hf3 hf4 hf5 hf6 hf7 hf8 hf9 hf10 hf11 hf12 hf15 hf16 hf18 hf19 hf20 hf21
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro; exact View.read_writes_eq_canon _ _ _ (cover1024_bf16 _ _ _ _ _ _ _ _)
  isplitl [H14]
  · iexists _; isplitr
    swap; · iexact H14
    ipureintro; exact View.read_writes_eq_canon _ _ _ (coverS _)
  isplitl [H15]
  · iexists f15; isplitr; · ipureintro; rfl
    iexact H15
  isplitl [H16]
  · iexists f16; isplitr; · ipureintro; rfl
    iexact H16
  isplitl [H17]
  · iexists _; isplitr
    swap; · iexact H17
    ipureintro; exact View.read_writes_eq_canon _ _ _ (coverD _)
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists _; isplitr
    swap; · iexact H22
    ipureintro; exact View.read_writes_eq_canon _ _ _ (cover1024_f32 _ _ _ _ _ _ _ _)
  · iexists _; isplitr
    swap; · iexact H23
    ipureintro; exact View.read_writes_eq_canon _ _ _ (cover1032 _ _ _ _ _ _ _ _ _)

end Cert.UpIdeal.Block

end
-- ==== Proof.UpIdealEven.lean ====
module

public import proofs.«01_k».proof.Proof.UpIdealTile

@[expose] public section

set_option maxRecDepth 16384
set_option maxHeartbeats 8000000

/-! # The up projection, point by point: the body of the kernel run in one of its cases -/

noncomputable section

namespace Cert.UpIdeal.Block

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A point at an even place that is not the first of its column: the first pair is written, the second read. -/
theorem runEven (c : Dev nD) (E : Set ℕ) (i : grid0.Coords) (arg1 : Memref sig .tc .vmem S1024x4096 .bf16) (harg1 : arg1.IsWhole) (arg2 : Memref sig .tc .vmem S32x4096 .bf16) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S8x256 .f32) (harg5 : arg5.IsWhole) (arg6 : Memref sig .tc .vmem S1x256 .f32) (harg6 : arg6.IsWhole) (arg7 : Memref sig .tc .vmem S32x256 .f32) (harg7 : arg7.IsWhole) (arg8 : Memref sig .tc .vmem S32x256 .f32) (harg8 : arg8.IsWhole) (arg9 : Memref sig .tc .vmem S8x256 .f32) (harg9 : arg9.IsWhole) (arg10 : Memref sig .tc .vmem S1x256 .f32) (harg10 : arg10.IsWhole) (arg11 : Memref sig .tc .vmem S1x8x256 .f32) (harg11 : arg11.IsWhole) (arg12 : Memref sig .tc .vmem S1x32x4096 .f32) (harg12 : arg12.IsWhole) (arg13 : Memref sig .tc .vmem S1024x256 .bf16) (harg13 : arg13.IsWhole) (arg14 : Memref sig .tc .vmem S1x8x256 .f32) (harg14 : arg14.IsWhole) (arg15 : Memref sig .tc .vmem S32x256 .bf16) (harg15 : arg15.IsWhole) (arg16 : Memref sig .tc .vmem S32x256 .f32) (harg16 : arg16.IsWhole) (arg17 : Memref sig .tc .vmem S32x4096 .bf16) (harg17 : arg17.IsWhole) (arg18 : Memref sig .tc .vmem S4096x256 .bf16) (harg18 : arg18.IsWhole) (arg19 : Memref sig .tc .vmem S4096x256 .bf16) (harg19 : arg19.IsWhole) (arg20 : Memref sig .tc .vmem S1024x256 .f32) (harg20 : arg20.IsWhole) (arg21 : Memref sig .tc .vmem S1032x256 .f32) (harg21 : arg21.IsWhole) (arg22 : Memref sig .tc .vmem S1024x256 .f32) (harg22 : arg22.IsWhole) (arg23 : Memref sig .tc .vmem S1032x256 .f32) (harg23 : arg23.IsWhole)
    (h1 : ¬ Scalar.cmpi .ne (Scalar.extui (Scalar.cmpi .eq (BitVec.ofNat 32 (i 0).val) 0#32) : BitVec 32) 0#32 = 1#1) (h2 : ¬ k0_cond2 i = 1#1) (h3 : k0_cond3 i = 1#1) (h4 : ¬ k0_cond4 i = 1#1)
    (x1 : Vec F S1024x4096 .bf16) (x2 : Vec F S32x4096 .bf16) (x3 : Vec F S1x4096x256 .f32) (x4 : Vec F S1x4096x256 .f32) (x5 : Vec F S8x256 .f32) (x6 : Vec F S1x256 .f32) (x7 : Vec F S32x256 .f32) (x8 : Vec F S32x256 .f32) (x9 : Vec F S8x256 .f32) (x10 : Vec F S1x256 .f32) (x11 : Vec F S1x8x256 .f32) (x12 : Vec F S1x32x4096 .f32) (x15 : Vec F S32x256 .bf16) (x16 : Vec F S32x256 .f32) (x18 : Vec F S4096x256 .bf16) (x19 : Vec F S4096x256 .bf16) (x22 : Vec F S1024x256 .f32) (x23 : Vec F S1032x256 .f32) (K : PUnit → sProp (MT nD τ sig Unit (Elt F) ℕ (UR sig nD τ) ℕ)) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ owns (c : Thread nD τ) arg15 fullShare x15 ∗ owns (c : Thread nD τ) arg16 fullShare x16 ∗ (∃ d, owns (c : Thread nD τ) arg17 fullShare d) ∗ owns (c : Thread nD τ) arg18 fullShare x18 ∗ owns (c : Thread nD τ) arg19 fullShare x19 ∗ (∃ d, owns (c : Thread nD τ) arg20 fullShare d) ∗ (∃ d, owns (c : Thread nD τ) arg21 fullShare d) ∗ owns (c : Thread nD τ) arg22 fullShare x22 ∗ owns (c : Thread nD τ) arg23 fullShare x23
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (tileA x22 x23 x9 x10) ∗ owns (c : Thread nD τ) arg14 fullShare (tileS x23) ∗ owns (c : Thread nD τ) arg15 fullShare x15 ∗ owns (c : Thread nD τ) arg16 fullShare x16 ∗ owns (c : Thread nD τ) arg17 fullShare (tileD x12) ∗ owns (c : Thread nD τ) arg18 fullShare x18 ∗ owns (c : Thread nD τ) arg19 fullShare x19 ∗ owns (c : Thread nD τ) arg20 fullShare (tileV x1 (View.ld x18 (Rect.unit (s := S4096x256) ![0, 0] S4096x256.size inb_S4096x256_S4096x256_0_0))) ∗ owns (c : Thread nD τ) arg21 fullShare (tileG x1 (View.ld x19 (Rect.unit (s := S4096x256) ![0, 0] S4096x256.size inb_S4096x256_S4096x256_0_0)) (before8 i x11 x23)) ∗ owns (c : Thread nD τ) arg22 fullShare x22 ∗ owns (c : Thread nD τ) arg23 fullShare x23) -∗ K ⟨⟩))
      ⊢ wp frame (wpE (defs₀ (F := F)) Variants.none c none) E (cc0_ffn_up i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_ffn_up_eq_skeleton]; unfold cc0_ffn_up_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%f15, %hf15, H15⟩, ⟨%f16, %hf16, H16⟩, ⟨%d17, %f17, -, H17⟩, ⟨%f18, %hf18, H18⟩, ⟨%f19, %hf19, H19⟩, ⟨%d20, %f20, -, H20⟩, ⟨%d21, %f21, -, H21⟩, ⟨%f22, %hf22, H22⟩, ⟨%f23, %hf23, H23⟩, Hk⟩
  subst hf1 hf2 hf3 hf4 hf5 hf6 hf7 hf8 hf9 hf10 hf11 hf12 hf15 hf16 hf18 hf19 hf22 hf23
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro; exact View.read_writes_eq_canon _ _ _ (cover1024_bf16 _ _ _ _ _ _ _ _)
  isplitl [H14]
  · iexists _; isplitr
    swap; · iexact H14
    ipureintro; exact View.read_writes_eq_canon _ _ _ (coverS _)
  isplitl [H15]
  · iexists f15; isplitr; · ipureintro; rfl
    iexact H15
  isplitl [H16]
  · iexists f16; isplitr; · ipureintro; rfl
    iexact H16
  isplitl [H17]
  · iexists _; isplitr
    swap; · iexact H17
    ipureintro; exact View.read_writes_eq_canon _ _ _ (coverD _)
  isplitl [H18]
  · iexists f18; isplitr; · ipureintro; rfl
    iexact H18
  isplitl [H19]
  · iexists f19; isplitr; · ipureintro; rfl
    iexact H19
  isplitl [H20]
  · iexists _; isplitr
    swap; · iexact H20
    ipureintro; exact View.read_writes_eq_canon _ _ _ (cover1024_f32 _ _ _ _ _ _ _ _)
  isplitl [H21]
  · iexists _; isplitr
    swap; · iexact H21
    ipureintro; exact View.read_writes_eq_canon _ _ _ (cover1032 _ _ _ _ _ _ _ _ _)
  isplitl [H22]
  · iexists f22; isplitr; · ipureintro; rfl
    iexact H22
  · iexists f23; isplitr; · ipureintro; rfl
    iexact H23

end Cert.UpIdeal.Block

end
-- ==== Proof.UpIdealCol.lean ====
module

public import proofs.«01_k».proof.Proof.UpIdealTile

@[expose] public section

set_option maxRecDepth 16384
set_option maxHeartbeats 8000000

/-! # The up projection, point by point: the body of the kernel run in one of its cases -/

noncomputable section

namespace Cert.UpIdeal.Block

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

attribute [local irreducible] k0_pay3 k0_pay6 k0_pay7 k0_pay8 k0_pay9 k0_pay11 k0_pay12 k0_pay13 k0_pay14

/-- The first point of a column but the very first: the weights are also cast and the short sequences passed. -/
theorem runCol (c : Dev nD) (E : Set ℕ) (i : grid0.Coords) (arg1 : Memref sig .tc .vmem S1024x4096 .bf16) (harg1 : arg1.IsWhole) (arg2 : Memref sig .tc .vmem S32x4096 .bf16) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S8x256 .f32) (harg5 : arg5.IsWhole) (arg6 : Memref sig .tc .vmem S1x256 .f32) (harg6 : arg6.IsWhole) (arg7 : Memref sig .tc .vmem S32x256 .f32) (harg7 : arg7.IsWhole) (arg8 : Memref sig .tc .vmem S32x256 .f32) (harg8 : arg8.IsWhole) (arg9 : Memref sig .tc .vmem S8x256 .f32) (harg9 : arg9.IsWhole) (arg10 : Memref sig .tc .vmem S1x256 .f32) (harg10 : arg10.IsWhole) (arg11 : Memref sig .tc .vmem S1x8x256 .f32) (harg11 : arg11.IsWhole) (arg12 : Memref sig .tc .vmem S1x32x4096 .f32) (harg12 : arg12.IsWhole) (arg13 : Memref sig .tc .vmem S1024x256 .bf16) (harg13 : arg13.IsWhole) (arg14 : Memref sig .tc .vmem S1x8x256 .f32) (harg14 : arg14.IsWhole) (arg15 : Memref sig .tc .vmem S32x256 .bf16) (harg15 : arg15.IsWhole) (arg16 : Memref sig .tc .vmem S32x256 .f32) (harg16 : arg16.IsWhole) (arg17 : Memref sig .tc .vmem S32x4096 .bf16) (harg17 : arg17.IsWhole) (arg18 : Memref sig .tc .vmem S4096x256 .bf16) (harg18 : arg18.IsWhole) (arg19 : Memref sig .tc .vmem S4096x256 .bf16) (harg19 : arg19.IsWhole) (arg20 : Memref sig .tc .vmem S1024x256 .f32) (harg20 : arg20.IsWhole) (arg21 : Memref sig .tc .vmem S1032x256 .f32) (harg21 : arg21.IsWhole) (arg22 : Memref sig .tc .vmem S1024x256 .f32) (harg22 : arg22.IsWhole) (arg23 : Memref sig .tc .vmem S1032x256 .f32) (harg23 : arg23.IsWhole)
    (h1 : ¬ Scalar.cmpi .ne (Scalar.extui (Scalar.cmpi .eq (BitVec.ofNat 32 (i 0).val) 0#32) : BitVec 32) 0#32 = 1#1) (h2 : k0_cond2 i = 1#1) (h3 : k0_cond3 i = 1#1) (h4 : ¬ k0_cond4 i = 1#1)
    (x1 : Vec F S1024x4096 .bf16) (x2 : Vec F S32x4096 .bf16) (x3 : Vec F S1x4096x256 .f32) (x4 : Vec F S1x4096x256 .f32) (x5 : Vec F S8x256 .f32) (x6 : Vec F S1x256 .f32) (x7 : Vec F S32x256 .f32) (x8 : Vec F S32x256 .f32) (x9 : Vec F S8x256 .f32) (x10 : Vec F S1x256 .f32) (x11 : Vec F S1x8x256 .f32) (x12 : Vec F S1x32x4096 .f32) (x22 : Vec F S1024x256 .f32) (x23 : Vec F S1032x256 .f32) (K : PUnit → sProp (MT nD τ sig Unit (Elt F) ℕ (UR sig nD τ) ℕ)) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare x22 ∗ owns (c : Thread nD τ) arg23 fullShare x23
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (tileA x22 x23 x9 x10) ∗ owns (c : Thread nD τ) arg14 fullShare (tileS x23) ∗ owns (c : Thread nD τ) arg15 fullShare (shortA x2 (k0_pay6 (View.ld x3 (Rect.unit (s := S1x4096x256) ![0, 0, 0] S1x4096x256.size inb_S1x4096x256_S1x4096x256_0_0_0))) (k0_pay7 (View.ld x4 (Rect.unit (s := S1x4096x256) ![0, 0, 0] S1x4096x256.size inb_S1x4096x256_S1x4096x256_0_0_0))) x5 x6 x7 x8) ∗ owns (c : Thread nD τ) arg16 fullShare (shortG x2 (k0_pay7 (View.ld x4 (Rect.unit (s := S1x4096x256) ![0, 0, 0] S1x4096x256.size inb_S1x4096x256_S1x4096x256_0_0_0)))) ∗ owns (c : Thread nD τ) arg17 fullShare (tileD x12) ∗ owns (c : Thread nD τ) arg18 fullShare (castV x3) ∗ owns (c : Thread nD τ) arg19 fullShare (castG x4) ∗ owns (c : Thread nD τ) arg20 fullShare (tileV x1 (k0_pay6 (View.ld x3 (Rect.unit (s := S1x4096x256) ![0, 0, 0] S1x4096x256.size inb_S1x4096x256_S1x4096x256_0_0_0)))) ∗ owns (c : Thread nD τ) arg21 fullShare (tileG x1 (k0_pay7 (View.ld x4 (Rect.unit (s := S1x4096x256) ![0, 0, 0] S1x4096x256.size inb_S1x4096x256_S1x4096x256_0_0_0))) (before8 i x11 x23)) ∗ owns (c : Thread nD τ) arg22 fullShare x22 ∗ owns (c : Thread nD τ) arg23 fullShare x23) -∗ K ⟨⟩))
      ⊢ wp frame (wpE (defs₀ (F := F)) Variants.none c none) E (cc0_ffn_up i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_ffn_up_eq_skeleton]; unfold cc0_ffn_up_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%f22, %hf22, H22⟩, ⟨%f23, %hf23, H23⟩, Hk⟩
  subst hf1 hf2 hf3 hf4 hf5 hf6 hf7 hf8 hf9 hf10 hf11 hf12 hf22 hf23
  sl_exec
  have e18 : runCol.sl.v27 c arg3 arg18 f3 = (k0_pay6 (View.ld (arg3.view.read (Elt F) f3) (Rect.unit (s := S1x4096x256) ![0, 0, 0] S1x4096x256.size inb_S1x4096x256_S1x4096x256_0_0_0))) := View.readCov_cons_toLoadRect _ _ _ _
  have e19 : runCol.sl.v29 c arg4 arg19 f4 = (k0_pay7 (View.ld (arg4.view.read (Elt F) f4) (Rect.unit (s := S1x4096x256) ![0, 0, 0] S1x4096x256.size inb_S1x4096x256_S1x4096x256_0_0_0))) := View.readCov_cons_toLoadRect _ _ _ _
  have r0 : runCol.sl.r c arg2 arg3 arg18 f2 f3 = k0_pay8 (View.ld (arg2.view.read (Elt F) f2) (Rect.unit (s := S32x4096) ![0, 0] S32x4096.size inb_S32x4096_S32x4096_0_0)) (k0_pay6 (View.ld (arg3.view.read (Elt F) f3) (Rect.unit (s := S1x4096x256) ![0, 0, 0] S1x4096x256.size inb_S1x4096x256_S1x4096x256_0_0_0))) := congrArg (k0_pay8 _) e18
  have r1 : runCol.sl.r_1 c arg2 arg4 arg19 f2 f4 = k0_pay9 (View.ld (arg2.view.read (Elt F) f2) (Rect.unit (s := S32x4096) ![0, 0] S32x4096.size inb_S32x4096_S32x4096_0_0)) (k0_pay7 (View.ld (arg4.view.read (Elt F) f4) (Rect.unit (s := S1x4096x256) ![0, 0, 0] S1x4096x256.size inb_S1x4096x256_S1x4096x256_0_0_0))) := congrArg (k0_pay9 _) e19
  have r2 : runCol.sl.r_2 c arg2 arg4 arg7 arg19 f2 f4 f7 = k0_pay11 (View.ld (arg2.view.read (Elt F) f2) (Rect.unit (s := S32x4096) ![0, 0] S32x4096.size inb_S32x4096_S32x4096_0_0)) (k0_pay7 (View.ld (arg4.view.read (Elt F) f4) (Rect.unit (s := S1x4096x256) ![0, 0, 0] S1x4096x256.size inb_S1x4096x256_S1x4096x256_0_0_0))) (View.ld (arg7.view.read (Elt F) f7) (Rect.unit (s := S32x256) ![0, 0] S32x256.size inb_S32x256_S32x256_0_0)) := congrArg (fun w => k0_pay11 (View.ld (arg2.view.read (Elt F) f2) (Rect.unit (s := S32x4096) ![0, 0] S32x4096.size inb_S32x4096_S32x4096_0_0)) w (View.ld (arg7.view.read (Elt F) f7) (Rect.unit (s := S32x256) ![0, 0] S32x256.size inb_S32x256_S32x256_0_0))) e19
  have r3 : runCol.sl.r_3 c arg2 arg4 arg19 f2 f4 = k0_pay13 (View.ld (arg2.view.read (Elt F) f2) (Rect.unit (s := S32x4096) ![0, 0] S32x4096.size inb_S32x4096_S32x4096_0_0)) (k0_pay7 (View.ld (arg4.view.read (Elt F) f4) (Rect.unit (s := S1x4096x256) ![0, 0, 0] S1x4096x256.size inb_S1x4096x256_S1x4096x256_0_0_0))) := congrArg (k0_pay13 _) e19
  have r4 : runCol.sl.r_4 c arg8 f8 = k0_pay14 (View.ld (arg8.view.read (Elt F) f8) (Rect.unit (s := S32x256) ![0, 0] S32x256.size inb_S32x256_S32x256_0_0)) := rfl
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro; exact View.read_writes_eq_canon _ _ _ (cover1024_bf16 _ _ _ _ _ _ _ _)
  isplitl [H14]
  · iexists _; isplitr
    swap; · iexact H14
    ipureintro; exact View.read_writes_eq_canon _ _ _ (coverS _)
  isplitl [H15]
  · iexists _; isplitr
    swap; · iexact H15
    ipureintro; rw [r0, r1, r2, r3, r4]; exact View.read_writes_eq_canon _ _ _ (coverA32 (F := F) _)
  isplitl [H16]
  · iexists _; isplitr
    swap; · iexact H16
    ipureintro; rw [r1]; exact View.read_writes_eq_canon _ _ _ (coverG32 (F := F) _)
  isplitl [H17]
  · iexists _; isplitr
    swap; · iexact H17
    ipureintro; exact View.read_writes_eq_canon _ _ _ (coverD _)
  isplitl [H18]
  · iexists _; isplitr
    swap; · iexact H18
    ipureintro; exact View.read_writes_eq_canon _ _ _ (coverW _)
  isplitl [H19]
  · iexists _; isplitr
    swap; · iexact H19
    ipureintro; exact View.read_writes_eq_canon _ _ _ (coverW _)
  isplitl [H20]
  · iexists _; isplitr
    swap; · iexact H20
    ipureintro; simp only [e18, e19]; exact View.read_writes_eq_canon _ _ _ (cover1024_f32 _ _ _ _ _ _ _ _)
  isplitl [H21]
  · iexists _; isplitr
    swap; · iexact H21
    ipureintro; simp only [e18, e19]; exact View.read_writes_eq_canon _ _ _ (cover1032 _ _ _ _ _ _ _ _ _)
  isplitl [H22]
  · iexists f22; isplitr; · ipureintro; rfl
    iexact H22
  · iexists f23; isplitr; · ipureintro; rfl
    iexact H23

end Cert.UpIdeal.Block

end
-- ==== Proof.UpIdealZero.lean ====
module

public import proofs.«01_k».proof.Proof.UpIdealTile

@[expose] public section

set_option maxRecDepth 16384
set_option maxHeartbeats 8000000

/-! # The up projection, point by point: the body of the kernel run in one of its cases -/

noncomputable section

namespace Cert.UpIdeal.Block

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

attribute [local irreducible] k0_pay3 k0_pay6 k0_pay7 k0_pay8 k0_pay9 k0_pay11 k0_pay12 k0_pay13 k0_pay14

/-- The stores of zeros into the second pair of buffers, before anything else. -/
theorem zero_first (c : Dev nD) (E : Set ℕ) (arg22 : Memref sig .tc .vmem S1024x256 .f32) (harg22 : arg22.IsWhole) (arg23 : Memref sig .tc .vmem S1032x256 .f32) (harg23 : arg23.IsWhole)
    (x22 : Vec F S1024x256 .f32) (x23 : Vec F S1032x256 .f32) (hv : x22 = zeroV) (hg : x23 = zeroG)
    (R : sProp (MT nD τ sig Unit (Elt F) ℕ (UR sig nD τ) ℕ)) (rest : Prog (TpuEff nD τ sig (Elt F) Λ₀ .tc) PUnit) (Q : PUnit → sProp (MT nD τ sig Unit (Elt F) ℕ (UR sig nD τ) ℕ))
    (h : iprop(owns (c : Thread nD τ) arg22 fullShare x22 ∗ owns (c : Thread nD τ) arg23 fullShare x23 ∗ R) ⊢ wp frame (wpE (defs₀ (F := F)) Variants.none c none) E rest Q) :
    iprop((∃ d, owns (c : Thread nD τ) arg22 fullShare d) ∗ (∃ d, owns (c : Thread nD τ) arg23 fullShare d) ∗ R)
      ⊢ wp frame (wpE (defs₀ (F := F)) Variants.none c none) E (do
          let v15 : Vec F S1024x256 .f32 ← Prog.lift (.load arg22 (Rect.unit (s := S1024x256) ![0, 0] S1024x256.size inb_S1024x256_S1024x256_0_0).toLoadRect (View.loadsAt_vmem h_S1024x256))
          Prog.lift (.store arg22 (Rect.unit (s := S1024x256) ![0, 0] S1024x256.size inb_S1024x256_S1024x256_0_0) (k0_pay1 (F := F)) Finset.univ (View.stores_vmem_bits_univ h_S1024x256 rfl) (.inl rfl))
          let v19 : Vec F S1032x256 .f32 ← Prog.lift (.load arg23 (Rect.unit (s := S1032x256) ![0, 0] S1032x256.size inb_S1032x256_S1032x256_0_0).toLoadRect (View.loadsAt_vmem h_S1032x256))
          Prog.lift (.store arg23 (Rect.unit (s := S1032x256) ![0, 0] S1032x256.size inb_S1032x256_S1032x256_0_0) (k0_pay2 (F := F)) Finset.univ (View.stores_vmem_bits_univ h_S1032x256 rfl) (.inl rfl))
          rest) Q := by
  subst hv hg
  unfold owns at h ⊢
  iintro ⟨⟨%d22, %f22, -, H22⟩, ⟨%d23, %f23, -, H23⟩, HR⟩
  sl_exec
  iapply h
  isplitl [H22]
  · iexists _; isplitr
    swap; · iexact H22
    ipureintro; exact View.read_writes_eq_canon _ _ _ (coverV0 (F := F) _)
  isplitl [H23]
  · iexists _; isplitr
    swap; · iexact H23
    ipureintro; exact View.read_writes_eq_canon _ _ _ (coverG0 (F := F) _)
  iexact HR

/-- The very first point: the second pair of buffers is cleared before it is read. -/
theorem runZero (c : Dev nD) (E : Set ℕ) (i : grid0.Coords) (arg1 : Memref sig .tc .vmem S1024x4096 .bf16) (harg1 : arg1.IsWhole) (arg2 : Memref sig .tc .vmem S32x4096 .bf16) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S8x256 .f32) (harg5 : arg5.IsWhole) (arg6 : Memref sig .tc .vmem S1x256 .f32) (harg6 : arg6.IsWhole) (arg7 : Memref sig .tc .vmem S32x256 .f32) (harg7 : arg7.IsWhole) (arg8 : Memref sig .tc .vmem S32x256 .f32) (harg8 : arg8.IsWhole) (arg9 : Memref sig .tc .vmem S8x256 .f32) (harg9 : arg9.IsWhole) (arg10 : Memref sig .tc .vmem S1x256 .f32) (harg10 : arg10.IsWhole) (arg11 : Memref sig .tc .vmem S1x8x256 .f32) (harg11 : arg11.IsWhole) (arg12 : Memref sig .tc .vmem S1x32x4096 .f32) (harg12 : arg12.IsWhole) (arg13 : Memref sig .tc .vmem S1024x256 .bf16) (harg13 : arg13.IsWhole) (arg14 : Memref sig .tc .vmem S1x8x256 .f32) (harg14 : arg14.IsWhole) (arg15 : Memref sig .tc .vmem S32x256 .bf16) (harg15 : arg15.IsWhole) (arg16 : Memref sig .tc .vmem S32x256 .f32) (harg16 : arg16.IsWhole) (arg17 : Memref sig .tc .vmem S32x4096 .bf16) (harg17 : arg17.IsWhole) (arg18 : Memref sig .tc .vmem S4096x256 .bf16) (harg18 : arg18.IsWhole) (arg19 : Memref sig .tc .vmem S4096x256 .bf16) (harg19 : arg19.IsWhole) (arg20 : Memref sig .tc .vmem S1024x256 .f32) (harg20 : arg20.IsWhole) (arg21 : Memref sig .tc .vmem S1032x256 .f32) (harg21 : arg21.IsWhole) (arg22 : Memref sig .tc .vmem S1024x256 .f32) (harg22 : arg22.IsWhole) (arg23 : Memref sig .tc .vmem S1032x256 .f32) (harg23 : arg23.IsWhole)
    (h1 : Scalar.cmpi .ne (Scalar.extui (Scalar.cmpi .eq (BitVec.ofNat 32 (i 0).val) 0#32) : BitVec 32) 0#32 = 1#1) (h2 : k0_cond2 i = 1#1) (h3 : k0_cond3 i = 1#1) (h4 : ¬ k0_cond4 i = 1#1)
    (x1 : Vec F S1024x4096 .bf16) (x2 : Vec F S32x4096 .bf16) (x3 : Vec F S1x4096x256 .f32) (x4 : Vec F S1x4096x256 .f32) (x5 : Vec F S8x256 .f32) (x6 : Vec F S1x256 .f32) (x7 : Vec F S32x256 .f32) (x8 : Vec F S32x256 .f32) (x9 : Vec F S8x256 .f32) (x10 : Vec F S1x256 .f32) (x11 : Vec F S1x8x256 .f32) (x12 : Vec F S1x32x4096 .f32) (x22 : Vec F S1024x256 .f32) (x23 : Vec F S1032x256 .f32) (hv : x22 = zeroV) (hg : x23 = zeroG) (K : PUnit → sProp (MT nD τ sig Unit (Elt F) ℕ (UR sig nD τ) ℕ)) :
    iprop((∃ d, owns (c : Thread nD τ) arg22 fullShare d) ∗ (∃ d, owns (c : Thread nD τ) arg23 fullShare d) ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg22 fullShare x22 ∗ owns (c : Thread nD τ) arg23 fullShare x23 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (tileA x22 x23 x9 x10) ∗ owns (c : Thread nD τ) arg14 fullShare (tileS x23) ∗ owns (c : Thread nD τ) arg15 fullShare (shortA x2 (k0_pay6 (View.ld x3 (Rect.unit (s := S1x4096x256) ![0, 0, 0] S1x4096x256.size inb_S1x4096x256_S1x4096x256_0_0_0))) (k0_pay7 (View.ld x4 (Rect.unit (s := S1x4096x256) ![0, 0, 0] S1x4096x256.size inb_S1x4096x256_S1x4096x256_0_0_0))) x5 x6 x7 x8) ∗ owns (c : Thread nD τ) arg16 fullShare (shortG x2 (k0_pay7 (View.ld x4 (Rect.unit (s := S1x4096x256) ![0, 0, 0] S1x4096x256.size inb_S1x4096x256_S1x4096x256_0_0_0)))) ∗ owns (c : Thread nD τ) arg17 fullShare (tileD x12) ∗ owns (c : Thread nD τ) arg18 fullShare (castV x3) ∗ owns (c : Thread nD τ) arg19 fullShare (castG x4) ∗ owns (c : Thread nD τ) arg20 fullShare (tileV x1 (k0_pay6 (View.ld x3 (Rect.unit (s := S1x4096x256) ![0, 0, 0] S1x4096x256.size inb_S1x4096x256_S1x4096x256_0_0_0)))) ∗ owns (c : Thread nD τ) arg21 fullShare (tileG x1 (k0_pay7 (View.ld x4 (Rect.unit (s := S1x4096x256) ![0, 0, 0] S1x4096x256.size inb_S1x4096x256_S1x4096x256_0_0_0))) (before8 i x11 x23))) -∗ K ⟨⟩))
      ⊢ wp frame (wpE (defs₀ (F := F)) Variants.none c none) E (cc0_ffn_up i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_ffn_up_eq_skeleton]; unfold cc0_ffn_up_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  rw [dif_pos h1]
  refine zero_first c E arg22 harg22 arg23 harg23 x22 x23 hv hg _ _ _ ?_
  unfold owns
  iintro ⟨⟨%f22, %hf22, H22⟩, ⟨%f23, %hf23, H23⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  subst hf1 hf2 hf3 hf4 hf5 hf6 hf7 hf8 hf9 hf10 hf11 hf12 hf22 hf23
  sl_exec
  have e18 : runZero.sl.v27 c arg3 arg18 f3 = (k0_pay6 (View.ld (arg3.view.read (Elt F) f3) (Rect.unit (s := S1x4096x256) ![0, 0, 0] S1x4096x256.size inb_S1x4096x256_S1x4096x256_0_0_0))) := View.readCov_cons_toLoadRect _ _ _ _
  have e19 : runZero.sl.v29 c arg4 arg19 f4 = (k0_pay7 (View.ld (arg4.view.read (Elt F) f4) (Rect.unit (s := S1x4096x256) ![0, 0, 0] S1x4096x256.size inb_S1x4096x256_S1x4096x256_0_0_0))) := View.readCov_cons_toLoadRect _ _ _ _
  have r0 : runZero.sl.r c arg2 arg3 arg18 f2 f3 = k0_pay8 (View.ld (arg2.view.read (Elt F) f2) (Rect.unit (s := S32x4096) ![0, 0] S32x4096.size inb_S32x4096_S32x4096_0_0)) (k0_pay6 (View.ld (arg3.view.read (Elt F) f3) (Rect.unit (s := S1x4096x256) ![0, 0, 0] S1x4096x256.size inb_S1x4096x256_S1x4096x256_0_0_0))) := congrArg (k0_pay8 _) e18
  have r1 : runZero.sl.r_1 c arg2 arg4 arg19 f2 f4 = k0_pay9 (View.ld (arg2.view.read (Elt F) f2) (Rect.unit (s := S32x4096) ![0, 0] S32x4096.size inb_S32x4096_S32x4096_0_0)) (k0_pay7 (View.ld (arg4.view.read (Elt F) f4) (Rect.unit (s := S1x4096x256) ![0, 0, 0] S1x4096x256.size inb_S1x4096x256_S1x4096x256_0_0_0))) := congrArg (k0_pay9 _) e19
  have r2 : runZero.sl.r_2 c arg2 arg4 arg7 arg19 f2 f4 f7 = k0_pay11 (View.ld (arg2.view.read (Elt F) f2) (Rect.unit (s := S32x4096) ![0, 0] S32x4096.size inb_S32x4096_S32x4096_0_0)) (k0_pay7 (View.ld (arg4.view.read (Elt F) f4) (Rect.unit (s := S1x4096x256) ![0, 0, 0] S1x4096x256.size inb_S1x4096x256_S1x4096x256_0_0_0))) (View.ld (arg7.view.read (Elt F) f7) (Rect.unit (s := S32x256) ![0, 0] S32x256.size inb_S32x256_S32x256_0_0)) := congrArg (fun w => k0_pay11 (View.ld (arg2.view.read (Elt F) f2) (Rect.unit (s := S32x4096) ![0, 0] S32x4096.size inb_S32x4096_S32x4096_0_0)) w (View.ld (arg7.view.read (Elt F) f7) (Rect.unit (s := S32x256) ![0, 0] S32x256.size inb_S32x256_S32x256_0_0))) e19
  have r3 : runZero.sl.r_3 c arg2 arg4 arg19 f2 f4 = k0_pay13 (View.ld (arg2.view.read (Elt F) f2) (Rect.unit (s := S32x4096) ![0, 0] S32x4096.size inb_S32x4096_S32x4096_0_0)) (k0_pay7 (View.ld (arg4.view.read (Elt F) f4) (Rect.unit (s := S1x4096x256) ![0, 0, 0] S1x4096x256.size inb_S1x4096x256_S1x4096x256_0_0_0))) := congrArg (k0_pay13 _) e19
  have r4 : runZero.sl.r_4 c arg8 f8 = k0_pay14 (View.ld (arg8.view.read (Elt F) f8) (Rect.unit (s := S32x256) ![0, 0] S32x256.size inb_S32x256_S32x256_0_0)) := rfl
  sl_step
  iapply Hk
  isplitl [H22]
  · iexists f22; isplitr; · ipureintro; rfl
    iexact H22
  isplitl [H23]
  · iexists f23; isplitr; · ipureintro; rfl
    iexact H23
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro; exact View.read_writes_eq_canon _ _ _ (cover1024_bf16 _ _ _ _ _ _ _ _)
  isplitl [H14]
  · iexists _; isplitr
    swap; · iexact H14
    ipureintro; exact View.read_writes_eq_canon _ _ _ (coverS _)
  isplitl [H15]
  · iexists _; isplitr
    swap; · iexact H15
    ipureintro; rw [r0, r1, r2, r3, r4]; exact View.read_writes_eq_canon _ _ _ (coverA32 (F := F) _)
  isplitl [H16]
  · iexists _; isplitr
    swap; · iexact H16
    ipureintro; rw [r1]; exact View.read_writes_eq_canon _ _ _ (coverG32 (F := F) _)
  isplitl [H17]
  · iexists _; isplitr
    swap; · iexact H17
    ipureintro; exact View.read_writes_eq_canon _ _ _ (coverD _)
  isplitl [H18]
  · iexists _; isplitr
    swap; · iexact H18
    ipureintro; exact View.read_writes_eq_canon _ _ _ (coverW _)
  isplitl [H19]
  · iexists _; isplitr
    swap; · iexact H19
    ipureintro; exact View.read_writes_eq_canon _ _ _ (coverW _)
  isplitl [H20]
  · iexists _; isplitr
    swap; · iexact H20
    ipureintro; simp only [e18, e19]; exact View.read_writes_eq_canon _ _ _ (cover1024_f32 _ _ _ _ _ _ _ _)
  · iexists _; isplitr
    swap; · iexact H21
    ipureintro; simp only [e18, e19]; exact View.read_writes_eq_canon _ _ _ (cover1032 _ _ _ _ _ _ _ _ _)

end Cert.UpIdeal.Block

end
-- ==== Proof.UpIdealData.lean ====
module

public import proofs.«01_k».proof.Proof.UpIdealOdd
public import proofs.«01_k».proof.Proof.UpIdealEven
public import proofs.«01_k».proof.Proof.UpIdealCol
public import proofs.«01_k».proof.Proof.UpIdealZero
public import Idealize.ShloMosaic.Lib.Quiescent
public import Idealize.ShloMosaic.Lib.Claim

@[expose] public section

set_option maxRecDepth 16384
set_option maxHeartbeats 8000000

/-! # The up projection: what the buffers hold at every grid point, and the run of the whole grid -/

noncomputable section

namespace Cert.UpIdeal.Block

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A load of a whole block of weights is the block. -/
theorem ld_weights (x : Vec F S4096x256 .bf16) : View.ld x (Rect.unit (s := S4096x256) ![0, 0] S4096x256.size inb_S4096x256_S4096x256_0_0) = x := by
  funext y; refine congrArg x ?_; funext d; apply Fin.ext
  match d with
  | ⟨0, _⟩ => simp [LoadRect.idx_apply]
  | ⟨1, _⟩ => simp [LoadRect.idx_apply]

/-- A block of weights as the first point of a column casts it. -/
abbrev rawV (x : Vec F S1x4096x256 .f32) : Vec F S4096x256 .bf16 := k0_pay6 (View.ld x (Rect.unit (s := S1x4096x256) ![0, 0, 0] S1x4096x256.size inb_S1x4096x256_S1x4096x256_0_0_0))
/-- The same for the gates' weights. -/
abbrev rawG (x : Vec F S1x4096x256 .f32) : Vec F S4096x256 .bf16 := k0_pay7 (View.ld x (Rect.unit (s := S1x4096x256) ![0, 0, 0] S1x4096x256.size inb_S1x4096x256_S1x4096x256_0_0_0))

/-- One store of the whole buffer leaves what was stored. -/
theorem emb_weights (y : (Rect.unit (s := S4096x256) ![0, 0] S4096x256.size inb_S4096x256_S4096x256_0_0).shape.Idx) : (Rect.unit (s := S4096x256) ![0, 0] S4096x256.size inb_S4096x256_S4096x256_0_0).emb y = y := by
  funext d; apply Fin.ext
  match d with
  | ⟨0, _⟩ => simp [Rect.emb_apply]
  | ⟨1, _⟩ => simp [Rect.emb_apply]
/-- One piece over the whole of a weight buffer is the buffer's contents. -/
theorem canon_weights (p : Vec F S4096x256 .bf16) : View.canon [⟨(Rect.unit (s := S4096x256) ![0, 0] S4096x256.size inb_S4096x256_S4096x256_0_0), p⟩] = p := by
  funext y
  have h := View.canon_cons_emb (Rect.unit (s := S4096x256) ![0, 0] S4096x256.size inb_S4096x256_S4096x256_0_0) p [] y
  rw [emb_weights] at h
  exact h

/-- The cast value weights, as a plain cast. -/
theorem castV_eq (x : Vec F S1x4096x256 .f32) : castV x = rawV x := canon_weights _
/-- The cast gate weights, as a plain cast. -/
theorem castG_eq (x : Vec F S1x4096x256 .f32) : castG x = rawG x := canon_weights _

/-- What is kept from one grid point to the next: the cast weights, the last tile of values and of gates, and the two
    results for the short sequences of the current column. -/
structure St (F : FTy → Type) where
  wv : Vec F S4096x256 .bf16
  wg : Vec F S4096x256 .bf16
  v : Vec F S1024x256 .f32
  g : Vec F S1032x256 .f32
  sa : Vec F S32x256 .bf16
  sg : Vec F S32x256 .f32

variable (m : (ℓ : Loc nD τ sig) → Buf (Elt F) ℓ) (ρ : Dev nD → PrngReg)

/-- The state after point `t`, from the state before it. -/
def step (c : Dev nD) (t : Fin cfg0.N) (s : St F) : St F where
  wv := if t.val % 8 = 0 then rawV (iblk m c 2 t) else s.wv
  wg := if t.val % 8 = 0 then rawG (iblk m c 3 t) else s.wg
  v := tileV (iblk m c 0 t) (if t.val % 8 = 0 then rawV (iblk m c 2 t) else s.wv)
  g := tileG (iblk m c 0 t) (if t.val % 8 = 0 then rawG (iblk m c 3 t) else s.wg) (before8 (grid0.coords t) (iblk m c 10 t) s.g)
  sa := if t.val % 8 = 0 then shortA (iblk m c 1 t) (rawV (iblk m c 2 t)) (rawG (iblk m c 3 t)) (iblk m c 4 t) (iblk m c 5 t) (iblk m c 6 t) (iblk m c 7 t) else s.sa
  sg := if t.val % 8 = 0 then shortG (iblk m c 1 t) (rawG (iblk m c 3 t)) else s.sg

/-- The state before point `n`. -/
def stAt (c : Dev nD) : ℕ → St F
  | 0 => ⟨View.canon [], View.canon [], zeroV, zeroG, View.canon [], View.canon []⟩
  | n + 1 => if h : n < cfg0.N then step m c ⟨n, h⟩ (stAt c n) else stAt c n

/-- The state after a point is one step from the state before it. -/
theorem stAt_succ (c : Dev nD) (t : Fin cfg0.N) : stAt m c (t.val + 1) = step m c t (stAt m c t.val) := by
  rw [stAt, dif_pos t.isLt]

/-- The first tile of values is zero. -/
theorem start_v (c : Dev nD) : (stAt m c 0).v = zeroV := by rw [stAt]
/-- The first tile of gates is zero. -/
theorem start_g (c : Dev nD) : (stAt m c 0).g = zeroG := by rw [stAt]

/-- The six buffers kept between points. -/
def held (c : Dev nD) (n : ℕ) : sProp 𝕄 :=
  iprop(owns (c : Thread nD τ) (Memref.whole cc0_scratch0) fullShare (stAt m c n).wv
    ∗ owns (c : Thread nD τ) (Memref.whole cc0_scratch1) fullShare (stAt m c n).wg
    ∗ (if n % 2 = 1 then iprop(owns (c : Thread nD τ) (Memref.whole cc0_scratch2) fullShare (stAt m c n).v
          ∗ owns (c : Thread nD τ) (Memref.whole cc0_scratch3) fullShare (stAt m c n).g
          ∗ (∃ d, owns (c : Thread nD τ) (Memref.whole cc0_scratch4) fullShare d)
          ∗ (∃ d, owns (c : Thread nD τ) (Memref.whole cc0_scratch5) fullShare d))
        else iprop((∃ d, owns (c : Thread nD τ) (Memref.whole cc0_scratch2) fullShare d)
          ∗ (∃ d, owns (c : Thread nD τ) (Memref.whole cc0_scratch3) fullShare d)
          ∗ owns (c : Thread nD τ) (Memref.whole cc0_scratch4) fullShare (stAt m c n).v
          ∗ owns (c : Thread nD τ) (Memref.whole cc0_scratch5) fullShare (stAt m c n).g)))

/-- The six buffers at any contents. -/
def loose (c : Dev nD) : sProp 𝕄 :=
  iprop((∃ d, owns (c : Thread nD τ) (Memref.whole cc0_scratch0) fullShare d)
    ∗ (∃ d, owns (c : Thread nD τ) (Memref.whole cc0_scratch1) fullShare d)
    ∗ (∃ d, owns (c : Thread nD τ) (Memref.whole cc0_scratch2) fullShare d)
    ∗ (∃ d, owns (c : Thread nD τ) (Memref.whole cc0_scratch3) fullShare d)
    ∗ (∃ d, owns (c : Thread nD τ) (Memref.whole cc0_scratch4) fullShare d)
    ∗ (∃ d, owns (c : Thread nD τ) (Memref.whole cc0_scratch5) fullShare d))

/-- What holds before point `n`. -/
def Phi (c : Dev nD) (n : ℕ) : sProp 𝕄 :=
  if n = 0 then iprop(loose (F := F) c ∗ ∃ r, prngReg c r) else iprop(held m c n ∗ ∃ r, prngReg c r)

/-- Known contents may be forgotten. -/
theorem held_loose (c : Dev nD) (n : ℕ) : held m c n ⊢ loose (F := F) c := by
  unfold held loose
  split
  · iintro ⟨H0, H1, H2, H3, H4, H5⟩
    isplitl [H0]; · iexists _; iexact H0
    isplitl [H1]; · iexists _; iexact H1
    isplitl [H2]; · iexists _; iexact H2
    isplitl [H3]; · iexists _; iexact H3
    isplitl [H4]; · iexact H4
    iexact H5
  · iintro ⟨H0, H1, H2, H3, H4, H5⟩
    isplitl [H0]; · iexists _; iexact H0
    isplitl [H1]; · iexists _; iexact H1
    isplitl [H2]; · iexact H2
    isplitl [H3]; · iexact H3
    isplitl [H4]; · iexists _; iexact H4
    iexists _; iexact H5

/-- The buffers private to the grid, listed one by one. -/
theorem rest_eq (c : Dev nD) : (Pipeline.ΦA spec0 c : sProp 𝕄) = iprop(loose (F := F) c ∗ ∃ r, prngReg c r) := by
  unfold Pipeline.ΦA loose
  rw [scopedRest0_eq]
  simp only [owns_whole]

/-- The proof data of the grid. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => tileA (stAt m c t.val).v (stAt m c t.val).g (iblk m c 8 t) (iblk m c 9 t)
    | ⟨13, _⟩ => tileS (stAt m c t.val).g
    | ⟨14, _⟩ => (stAt m c (t.val + 1)).sa
    | ⟨15, _⟩ => (stAt m c (t.val + 1)).sg
    | ⟨16, _⟩ => tileD (iblk m c 11 t)
    | ⟨k + 17, h⟩ => absurd h (Nat.not_lt.mpr (Nat.le_add_left 17 k))
  Φ t := Phi m c t.val
  q w := Pipeline.shareOf spec0 w
  owed _ := 0

/-- The array behind a window, as the grid finds it. -/
theorem A_eq (c : Dev nD) (w : Fin cfg0.W) : (dats m 0 c).A w = V m c (Pipeline.arrRef spec0 w) := by dsimp only [dats]
/-- What the body leaves in window 0. -/
theorem after0 (c : Dev nD) (t : Fin cfg0.N) : (dats m 0 c).after 0 t = iblk m c 0 t := by dsimp only [dats]
/-- What the body leaves in window 1. -/
theorem after1 (c : Dev nD) (t : Fin cfg0.N) : (dats m 0 c).after 1 t = iblk m c 1 t := by dsimp only [dats]
/-- What the body leaves in window 2. -/
theorem after2 (c : Dev nD) (t : Fin cfg0.N) : (dats m 0 c).after 2 t = iblk m c 2 t := by dsimp only [dats]
/-- What the body leaves in window 3. -/
theorem after3 (c : Dev nD) (t : Fin cfg0.N) : (dats m 0 c).after 3 t = iblk m c 3 t := by dsimp only [dats]
/-- What the body leaves in window 4. -/
theorem after4 (c : Dev nD) (t : Fin cfg0.N) : (dats m 0 c).after 4 t = iblk m c 4 t := by dsimp only [dats]
/-- What the body leaves in window 5. -/
theorem after5 (c : Dev nD) (t : Fin cfg0.N) : (dats m 0 c).after 5 t = iblk m c 5 t := by dsimp only [dats]
/-- What the body leaves in window 6. -/
theorem after6 (c : Dev nD) (t : Fin cfg0.N) : (dats m 0 c).after 6 t = iblk m c 6 t := by dsimp only [dats]
/-- What the body leaves in window 7. -/
theorem after7 (c : Dev nD) (t : Fin cfg0.N) : (dats m 0 c).after 7 t = iblk m c 7 t := by dsimp only [dats]
/-- What the body leaves in window 8. -/
theorem after8 (c : Dev nD) (t : Fin cfg0.N) : (dats m 0 c).after 8 t = iblk m c 8 t := by dsimp only [dats]
/-- What the body leaves in window 9. -/
theorem after9 (c : Dev nD) (t : Fin cfg0.N) : (dats m 0 c).after 9 t = iblk m c 9 t := by dsimp only [dats]
/-- What the body leaves in window 10. -/
theorem after10 (c : Dev nD) (t : Fin cfg0.N) : (dats m 0 c).after 10 t = iblk m c 10 t := by dsimp only [dats]
/-- What the body leaves in window 11. -/
theorem after11 (c : Dev nD) (t : Fin cfg0.N) : (dats m 0 c).after 11 t = iblk m c 11 t := by dsimp only [dats]
/-- What the body leaves in window 12. -/
theorem after12 (c : Dev nD) (t : Fin cfg0.N) : (dats m 0 c).after 12 t = tileA (stAt m c t.val).v (stAt m c t.val).g (iblk m c 8 t) (iblk m c 9 t) := by dsimp only [dats]
/-- What the body leaves in window 13. -/
theorem after13 (c : Dev nD) (t : Fin cfg0.N) : (dats m 0 c).after 13 t = tileS (stAt m c t.val).g := by dsimp only [dats]
/-- What the body leaves in window 14. -/
theorem after14 (c : Dev nD) (t : Fin cfg0.N) : (dats m 0 c).after 14 t = (stAt m c (t.val + 1)).sa := by dsimp only [dats]
/-- What the body leaves in window 15. -/
theorem after15 (c : Dev nD) (t : Fin cfg0.N) : (dats m 0 c).after 15 t = (stAt m c (t.val + 1)).sg := by dsimp only [dats]
/-- What the body leaves in window 16. -/
theorem after16 (c : Dev nD) (t : Fin cfg0.N) : (dats m 0 c).after 16 t = tileD (iblk m c 11 t) := by dsimp only [dats]
/-- What the body finds in window 0: the block of the point. -/
theorem beforeW0 (c : Dev nD) (t : Fin cfg0.N) (d) : (dats m 0 c).before 0 t d = iblk m c 0 t :=
  before0_0_of m (dats m 0 c) (A_eq m c 0) (after0 m c) t d
/-- What the body finds in window 1: the block of the point. -/
theorem beforeW1 (c : Dev nD) (t : Fin cfg0.N) (d) : (dats m 0 c).before 1 t d = iblk m c 1 t :=
  before0_1_of m (dats m 0 c) (A_eq m c 1) (after1 m c) t d
/-- What the body finds in window 2: the block of the point. -/
theorem beforeW2 (c : Dev nD) (t : Fin cfg0.N) (d) : (dats m 0 c).before 2 t d = iblk m c 2 t :=
  before0_2_of m (dats m 0 c) (A_eq m c 2) (after2 m c) t d
/-- What the body finds in window 3: the block of the point. -/
theorem beforeW3 (c : Dev nD) (t : Fin cfg0.N) (d) : (dats m 0 c).before 3 t d = iblk m c 3 t :=
  before0_3_of m (dats m 0 c) (A_eq m c 3) (after3 m c) t d
/-- What the body finds in window 4: the block of the point. -/
theorem beforeW4 (c : Dev nD) (t : Fin cfg0.N) (d) : (dats m 0 c).before 4 t d = iblk m c 4 t :=
  before0_4_of m (dats m 0 c) (A_eq m c 4) (after4 m c) t d
/-- What the body finds in window 5: the block of the point. -/
theorem beforeW5 (c : Dev nD) (t : Fin cfg0.N) (d) : (dats m 0 c).before 5 t d = iblk m c 5 t :=
  before0_5_of m (dats m 0 c) (A_eq m c 5) (after5 m c) t d
/-- What the body finds in window 6: the block of the point. -/
theorem beforeW6 (c : Dev nD) (t : Fin cfg0.N) (d) : (dats m 0 c).before 6 t d = iblk m c 6 t :=
  before0_6_of m (dats m 0 c) (A_eq m c 6) (after6 m c) t d
/-- What the body finds in window 7: the block of the point. -/
theorem beforeW7 (c : Dev nD) (t : Fin cfg0.N) (d) : (dats m 0 c).before 7 t d = iblk m c 7 t :=
  before0_7_of m (dats m 0 c) (A_eq m c 7) (after7 m c) t d
/-- What the body finds in window 8: the block of the point. -/
theorem beforeW8 (c : Dev nD) (t : Fin cfg0.N) (d) : (dats m 0 c).before 8 t d = iblk m c 8 t :=
  before0_8_of m (dats m 0 c) (A_eq m c 8) (after8 m c) t d
/-- What the body finds in window 9: the block of the point. -/
theorem beforeW9 (c : Dev nD) (t : Fin cfg0.N) (d) : (dats m 0 c).before 9 t d = iblk m c 9 t :=
  before0_9_of m (dats m 0 c) (A_eq m c 9) (after9 m c) t d
/-- What the body finds in window 10: the block of the point. -/
theorem beforeW10 (c : Dev nD) (t : Fin cfg0.N) (d) : (dats m 0 c).before 10 t d = iblk m c 10 t :=
  before0_10_of m (dats m 0 c) (A_eq m c 10) (after10 m c) t d
/-- What the body finds in window 11: the block of the point. -/
theorem beforeW11 (c : Dev nD) (t : Fin cfg0.N) (d) : (dats m 0 c).before 11 t d = iblk m c 11 t :=
  before0_11_of m (dats m 0 c) (A_eq m c 11) (after11 m c) t d

/-- A family by number, read before a point. -/
theorem at_castSucc {α : Sort _} {N : ℕ} (S : ℕ → α) (t : Fin N) : S (Fin.castSucc t).val = S t.val := rfl
/-- A family by number, read after a point. -/
theorem at_succ {α : Sort _} {N : ℕ} (S : ℕ → α) (t : Fin N) : S t.succ.val = S (t.val + 1) := rfl
/-- A family by number, read at the end. -/
theorem at_last {α : Sort _} (S : ℕ → α) (N : ℕ) : S (Fin.last N).val = S N := rfl
/-- What holds before a point. -/
theorem Phi_castSucc (c : Dev nD) (t : Fin cfg0.N) : (dats m 0 c).Φ t.castSucc = Phi m c t.val := by
  dsimp only [dats]; exact at_castSucc (Phi m c) t
/-- What holds after a point. -/
theorem Phi_succ (c : Dev nD) (t : Fin cfg0.N) : (dats m 0 c).Φ t.succ = Phi m c (t.val + 1) := by
  dsimp only [dats]; exact at_succ (Phi m c) t

/-- The conditions of the body, read off the point. -/
theorem conds : ∀ t : Fin cfg0.N, (k0_cond2 (grid0.coords t) = 1#1 ↔ t.val % 8 = 0) ∧ (k0_cond3 (grid0.coords t) = 1#1 ↔ t.val % 2 = 0)
    ∧ (k0_cond4 (grid0.coords t) = 1#1 ↔ t.val % 2 = 1)
    ∧ (Scalar.cmpi .ne (Scalar.extui (Scalar.cmpi .eq (BitVec.ofNat 32 ((grid0.coords t) 0).val) 0#32) : BitVec 32) 0#32 = 1#1 ↔ t.val = 0) :=
  (by decide +kernel : ∀ t : Fin grid0.N, (k0_cond2 (grid0.coords t) = 1#1 ↔ t.val % 8 = 0) ∧ (k0_cond3 (grid0.coords t) = 1#1 ↔ t.val % 2 = 0)
    ∧ (k0_cond4 (grid0.coords t) = 1#1 ↔ t.val % 2 = 1)
    ∧ (Scalar.cmpi .ne (Scalar.extui (Scalar.cmpi .eq (BitVec.ofNat 32 ((grid0.coords t) 0).val) 0#32) : BitVec 32) 0#32 = 1#1 ↔ t.val = 0))
/-- Which windows the body leaves alone at a point. -/
theorem idles : ∀ t : Fin cfg0.N, cfg0.idle 12 (grid0.coords t) = false ∧ cfg0.idle 13 (grid0.coords t) = false ∧ cfg0.idle 16 (grid0.coords t) = false
    ∧ cfg0.idle 14 (grid0.coords t) = !(t.val % 8 == 0) ∧ cfg0.idle 15 (grid0.coords t) = !(t.val % 8 == 0) :=
  (by decide +kernel : ∀ t : Fin grid0.N, idle0 12 (grid0.coords t) = false ∧ idle0 13 (grid0.coords t) = false ∧ idle0 16 (grid0.coords t) = false
    ∧ idle0 14 (grid0.coords t) = !(t.val % 8 == 0) ∧ idle0 15 (grid0.coords t) = !(t.val % 8 == 0))
/-- The results for the short sequences are written back at the end of a column only. -/
theorem flushes : ∀ t : Fin cfg0.N, t.val % 8 ≠ 7 → t.val ≠ 344 → (cfg0.win 14).flush t = false ∧ (cfg0.win 15).flush t = false :=
  (by decide +kernel : ∀ t : Fin grid0.N, t.val % 8 ≠ 7 → t.val ≠ 344 → win0_14.flush t = false ∧ win0_15.flush t = false)

/-- Inside a column the short activations are kept. -/
theorem keep_sa (c : Dev nD) (t : Fin cfg0.N) (h : t.val % 8 ≠ 0) : (stAt m c (t.val + 1)).sa = (stAt m c t.val).sa := by
  rw [stAt_succ]; show (if _ then _ else _) = _; rw [if_neg h]

/-- Inside a column the staging buffer still holds what the column's first point left. -/
theorem beforeW14 (c : Dev nD) (d) : ∀ n (t : Fin cfg0.N), t.val = n → n % 8 ≠ 0 → (dats m 0 c).before 14 t d = (stAt m c t.val).sa := by
  intro n
  induction n with
  | zero => intro t _ h; exact absurd rfl h
  | succ n ih =>
    intro t ht h
    have hN : cfg0.N = 345 := N_0
    have hlt := t.isLt
    obtain ⟨p, hp⟩ : ∃ p : Fin cfg0.N, p.val = n := ⟨⟨n, by omega⟩, rfl⟩
    have hq : (⟨t.val - 1, Nat.lt_of_le_of_lt (Nat.sub_le _ _) t.isLt⟩ : Fin cfg0.N) = p := Fin.ext (by show t.val - 1 = p.val; omega)
    rw [Dat.before_of_pos _ 14 t (by omega) rfl d, hq, (flushes p (by omega) (by omega)).1, if_neg Bool.false_ne_true]
    unfold Dat.left
    have hi : cfg0.idle 14 (cfg0.grid.coords p) = !(p.val % 8 == 0) := (idles p).2.2.2.1
    by_cases h8 : p.val % 8 = 0
    · rw [hi, show (!(p.val % 8 == 0)) = false by rw [h8]; rfl]
      show (dats m 0 c).after 14 p = _
      rw [after14, hp, ht]
    · rw [hi, show (!(p.val % 8 == 0)) = true by rw [Bool.not_eq_true', beq_eq_false_iff_ne]; exact h8]
      show (dats m 0 c).before 14 p d = _
      rw [ih p hp (by omega), ← keep_sa m c p h8, hp, ht]

/-- What is handed back of that window inside a column. -/
theorem leave14 (c : Dev nD) (t : Fin cfg0.N) (h : t.val % 8 ≠ 0) :
    owns (c : Thread nD τ) (st0_14 t) fullShare (stAt m c t.val).sa ⊢ (dats m 0 c).leavesExact 14 t := by
  have hi : cfg0.idle 14 (cfg0.grid.coords t) = !(t.val % 8 == 0) := (idles t).2.2.2.1
  unfold Dat.leavesExact
  rw [hi, show (!(t.val % 8 == 0)) = true by rw [Bool.not_eq_true', beq_eq_false_iff_ne]; exact h]
  cases hf : (cfg0.win 14).flush t with
  | false => iintro H; iexists (fun _ => Classical.arbitrary _); rw [beforeW14 m c _ t.val t rfl h]; iexact H
  | true => show _ ⊢ owns (c : Thread nD τ) (st0_14 t) fullShare ((dats m 0 c).after 14 t); rw [after14, keep_sa m c t h]

/-- Inside a column the short gates are kept. -/
theorem keep_sg (c : Dev nD) (t : Fin cfg0.N) (h : t.val % 8 ≠ 0) : (stAt m c (t.val + 1)).sg = (stAt m c t.val).sg := by
  rw [stAt_succ]; show (if _ then _ else _) = _; rw [if_neg h]

/-- Inside a column the staging buffer still holds what the column's first point left. -/
theorem beforeW15 (c : Dev nD) (d) : ∀ n (t : Fin cfg0.N), t.val = n → n % 8 ≠ 0 → (dats m 0 c).before 15 t d = (stAt m c t.val).sg := by
  intro n
  induction n with
  | zero => intro t _ h; exact absurd rfl h
  | succ n ih =>
    intro t ht h
    have hN : cfg0.N = 345 := N_0
    have hlt := t.isLt
    obtain ⟨p, hp⟩ : ∃ p : Fin cfg0.N, p.val = n := ⟨⟨n, by omega⟩, rfl⟩
    have hq : (⟨t.val - 1, Nat.lt_of_le_of_lt (Nat.sub_le _ _) t.isLt⟩ : Fin cfg0.N) = p := Fin.ext (by show t.val - 1 = p.val; omega)
    rw [Dat.before_of_pos _ 15 t (by omega) rfl d, hq, (flushes p (by omega) (by omega)).2, if_neg Bool.false_ne_true]
    unfold Dat.left
    have hi : cfg0.idle 15 (cfg0.grid.coords p) = !(p.val % 8 == 0) := (idles p).2.2.2.2
    by_cases h8 : p.val % 8 = 0
    · rw [hi, show (!(p.val % 8 == 0)) = false by rw [h8]; rfl]
      show (dats m 0 c).after 15 p = _
      rw [after15, hp, ht]
    · rw [hi, show (!(p.val % 8 == 0)) = true by rw [Bool.not_eq_true', beq_eq_false_iff_ne]; exact h8]
      show (dats m 0 c).before 15 p d = _
      rw [ih p hp (by omega), ← keep_sg m c p h8, hp, ht]

/-- What is handed back of that window inside a column. -/
theorem leave15 (c : Dev nD) (t : Fin cfg0.N) (h : t.val % 8 ≠ 0) :
    owns (c : Thread nD τ) (st0_15 t) fullShare (stAt m c t.val).sg ⊢ (dats m 0 c).leavesExact 15 t := by
  have hi : cfg0.idle 15 (cfg0.grid.coords t) = !(t.val % 8 == 0) := (idles t).2.2.2.2
  unfold Dat.leavesExact
  rw [hi, show (!(t.val % 8 == 0)) = true by rw [Bool.not_eq_true', beq_eq_false_iff_ne]; exact h]
  cases hf : (cfg0.win 15).flush t with
  | false => iintro H; iexists (fun _ => Classical.arbitrary _); rw [beforeW15 m c _ t.val t rfl h]; iexact H
  | true => show _ ⊢ owns (c : Thread nD τ) (st0_15 t) fullShare ((dats m 0 c).after 15 t); rw [after15, keep_sg m c t h]

/-- A window the body writes is handed back at what it wrote. -/
theorem leave_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))
/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ (dats m 0 c).leavesExact 12 t
    ∗ (dats m 0 c).leavesExact 13 t
    ∗ (dats m 0 c).leavesExact 14 t
    ∗ (dats m 0 c).leavesExact 15 t
    ∗ (dats m 0 c).leavesExact 16 t)

/-- The body at a point of this kind. -/
theorem soundZero (c : Dev nD) (t : Fin cfg0.N) (h : t.val = 0) :
    bodyPre m c t ⊢ wp frame (wpE (defs₀ (F := F)) Variants.none c none) Set.univ (bodyAt0 t) (fun _ => bodyPost m c t) := by
  obtain ⟨c2, c3, c4, c1⟩ := conds t
  obtain ⟨i12, i13, i16, i14, i15⟩ := idles t
  have h8 : t.val % 8 = 0 := by omega
  have j14 : cfg0.idle 14 (grid0.coords t) = false := by rw [i14, h8]; rfl
  have j15 : cfg0.idle 15 (grid0.coords t) = false := by rw [i15, h8]; rfl
  have es : step m c t (stAt m c t.val) = ⟨rawV (iblk m c 2 t), rawG (iblk m c 3 t), tileV (iblk m c 0 t) (rawV (iblk m c 2 t)),
      tileG (iblk m c 0 t) (rawG (iblk m c 3 t)) (before8 (grid0.coords t) (iblk m c 10 t) (stAt m c t.val).g),
      shortA (iblk m c 1 t) (rawV (iblk m c 2 t)) (rawG (iblk m c 3 t)) (iblk m c 4 t) (iblk m c 5 t) (iblk m c 6 t) (iblk m c 7 t),
      shortG (iblk m c 1 t) (rawG (iblk m c 3 t))⟩ := by
    unfold step; simp only [if_pos h8]
  unfold bodyPre bodyPost bodyAt0
  simp only [beforeW0, beforeW1, beforeW2, beforeW3, beforeW4, beforeW5, beforeW6, beforeW7, beforeW8, beforeW9, beforeW10, beforeW11]
  rw [Phi_castSucc, Phi_succ, show (dats m 0 c).owesAt () t.succ = (dats m 0 c).owesAt () t.castSucc from rfl,
    after0, after1, after2, after3, after4, after5, after6, after7, after8, after9, after10, after11,
    leave_live m c 12 t i12, leave_live m c 13 t i13, leave_live m c 16 t i16, after12, after13, after16,
    leave_live m c 14 t j14, leave_live m c 15 t j15, after14, after15]
  unfold Phi
  rw [if_pos h, if_neg (Nat.succ_ne_zero _)]
  unfold loose held
  rw [if_pos (show (t.val + 1) % 2 = 1 by omega)]
  rw [stAt_succ, es]
  iintro ⟨⟨⟨⟨%e18, S18⟩, ⟨%e19, S19⟩, ⟨%e20, S20⟩, ⟨%e21, S21⟩, ⟨%e22, S22⟩, ⟨%e23, S23⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (runZero c Set.univ (grid0.coords t) _ _ _ _ _ _ _ _ _ _ _ _ _ _ _ _ _ _ _ _ _ _ _ _ _ _ _ _ _ _ _ _ _ _ _ _ _ _ _ _ _ _ _ _ _ _ (c1.mpr h) (c2.mpr h8) (c3.mpr (by omega)) (fun q => absurd (c4.mp q) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (stAt m c t.val).v (stAt m c t.val).g (by rw [h]; exact start_v m c) (by rw [h]; exact start_g m c) _)
  isplitl [S22]; · iexists _; iexact S22
  isplitl [S23]; · iexists _; iexact S23
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [S18]; · iexists _; iexact S18
  isplitl [S19]; · iexists _; iexact S19
  isplitl [S20]; · iexists _; iexact S20
  isplitl [S21]; · iexists _; iexact S21
  rw [castV_eq, castG_eq]
  iintro ⟨S22, S23, H0, H1, H2, H3, H4, H5, H6, H7, H8, H9, H10, H11, H12, H13, H14, H15, H16, S18, S19, S20, S21⟩
  isplitl [S18 S19 S20 S21 S22 S23 Hr]
  · isplitl [S18 S19 S20 S21 S22 S23]
    · isplitl [S18]; · iexact S18
      isplitl [S19]; · iexact S19
      isplitl [S20]; · iexact S20
      isplitl [S21]; · iexact S21
      isplitl [S22]; · iexists _; iexact S22
      iexists _; iexact S23
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body at a point of this kind. -/
theorem soundCol (c : Dev nD) (t : Fin cfg0.N) (h0 : t.val ≠ 0) (h : t.val % 8 = 0) :
    bodyPre m c t ⊢ wp frame (wpE (defs₀ (F := F)) Variants.none c none) Set.univ (bodyAt0 t) (fun _ => bodyPost m c t) := by
  obtain ⟨c2, c3, c4, c1⟩ := conds t
  obtain ⟨i12, i13, i16, i14, i15⟩ := idles t
  have h8 : t.val % 8 = 0 := h
  have j14 : cfg0.idle 14 (grid0.coords t) = false := by rw [i14, h8]; rfl
  have j15 : cfg0.idle 15 (grid0.coords t) = false := by rw [i15, h8]; rfl
  have es : step m c t (stAt m c t.val) = ⟨rawV (iblk m c 2 t), rawG (iblk m c 3 t), tileV (iblk m c 0 t) (rawV (iblk m c 2 t)),
      tileG (iblk m c 0 t) (rawG (iblk m c 3 t)) (before8 (grid0.coords t) (iblk m c 10 t) (stAt m c t.val).g),
      shortA (iblk m c 1 t) (rawV (iblk m c 2 t)) (rawG (iblk m c 3 t)) (iblk m c 4 t) (iblk m c 5 t) (iblk m c 6 t) (iblk m c 7 t),
      shortG (iblk m c 1 t) (rawG (iblk m c 3 t))⟩ := by
    unfold step; simp only [if_pos h8]
  unfold bodyPre bodyPost bodyAt0
  simp only [beforeW0, beforeW1, beforeW2, beforeW3, beforeW4, beforeW5, beforeW6, beforeW7, beforeW8, beforeW9, beforeW10, beforeW11]
  rw [Phi_castSucc, Phi_succ, show (dats m 0 c).owesAt () t.succ = (dats m 0 c).owesAt () t.castSucc from rfl,
    after0, after1, after2, after3, after4, after5, after6, after7, after8, after9, after10, after11,
    leave_live m c 12 t i12, leave_live m c 13 t i13, leave_live m c 16 t i16, after12, after13, after16,
    leave_live m c 14 t j14, leave_live m c 15 t j15, after14, after15]
  unfold Phi
  rw [if_neg (show t.val ≠ 0 by omega), if_neg (Nat.succ_ne_zero _)]
  unfold held
  rw [if_neg (show ¬ t.val % 2 = 1 by omega)]
  rw [if_pos (show (t.val + 1) % 2 = 1 by omega)]
  rw [stAt_succ, es]
  iintro ⟨⟨⟨S18, S19, ⟨%e20, S20⟩, ⟨%e21, S21⟩, S22, S23⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (runCol c Set.univ (grid0.coords t) _ _ _ _ _ _ _ _ _ _ _ _ _ _ _ _ _ _ _ _ _ _ _ _ _ _ _ _ _ _ _ _ _ _ _ _ _ _ _ _ _ _ _ _ _ _ (fun q => h0 (c1.mp q)) (c2.mpr h8) (c3.mpr (by omega)) (fun q => absurd (c4.mp q) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (stAt m c t.val).v (stAt m c t.val).g _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [S18]; · iexists _; iexact S18
  isplitl [S19]; · iexists _; iexact S19
  isplitl [S20]; · iexists _; iexact S20
  isplitl [S21]; · iexists _; iexact S21
  isplitl [S22]; · iexact S22
  isplitl [S23]; · iexact S23
  rw [castV_eq, castG_eq]
  iintro ⟨H0, H1, H2, H3, H4, H5, H6, H7, H8, H9, H10, H11, H12, H13, H14, H15, H16, S18, S19, S20, S21, S22, S23⟩
  isplitl [S18 S19 S20 S21 S22 S23 Hr]
  · isplitl [S18 S19 S20 S21 S22 S23]
    · isplitl [S18]; · iexact S18
      isplitl [S19]; · iexact S19
      isplitl [S20]; · iexact S20
      isplitl [S21]; · iexact S21
      isplitl [S22]; · iexists _; iexact S22
      iexists _; iexact S23
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body at a point of this kind. -/
theorem soundEven (c : Dev nD) (t : Fin cfg0.N) (h : t.val % 8 ≠ 0) (h2 : t.val % 2 = 0) :
    bodyPre m c t ⊢ wp frame (wpE (defs₀ (F := F)) Variants.none c none) Set.univ (bodyAt0 t) (fun _ => bodyPost m c t) := by
  obtain ⟨c2, c3, c4, c1⟩ := conds t
  obtain ⟨i12, i13, i16, i14, i15⟩ := idles t
  have h8 : t.val % 8 ≠ 0 := h
  have es : step m c t (stAt m c t.val) = ⟨(stAt m c t.val).wv, (stAt m c t.val).wg, tileV (iblk m c 0 t) (View.ld (stAt m c t.val).wv (Rect.unit (s := S4096x256) ![0, 0] S4096x256.size inb_S4096x256_S4096x256_0_0)),
      tileG (iblk m c 0 t) (View.ld (stAt m c t.val).wg (Rect.unit (s := S4096x256) ![0, 0] S4096x256.size inb_S4096x256_S4096x256_0_0)) (before8 (grid0.coords t) (iblk m c 10 t) (stAt m c t.val).g),
      (stAt m c t.val).sa, (stAt m c t.val).sg⟩ := by
    rw [ld_weights, ld_weights]; unfold step; simp only [if_neg h8]
  unfold bodyPre bodyPost bodyAt0
  simp only [beforeW0, beforeW1, beforeW2, beforeW3, beforeW4, beforeW5, beforeW6, beforeW7, beforeW8, beforeW9, beforeW10, beforeW11, beforeW14 m c _ t.val t rfl h8, beforeW15 m c _ t.val t rfl h8]
  rw [Phi_castSucc, Phi_succ, show (dats m 0 c).owesAt () t.succ = (dats m 0 c).owesAt () t.castSucc from rfl,
    after0, after1, after2, after3, after4, after5, after6, after7, after8, after9, after10, after11,
    leave_live m c 12 t i12, leave_live m c 13 t i13, leave_live m c 16 t i16, after12, after13, after16]
  unfold Phi
  rw [if_neg (show t.val ≠ 0 by omega), if_neg (Nat.succ_ne_zero _)]
  unfold held
  rw [if_neg (show ¬ t.val % 2 = 1 by omega)]
  rw [if_pos (show (t.val + 1) % 2 = 1 by omega)]
  rw [stAt_succ, es]
  iintro ⟨⟨⟨S18, S19, ⟨%e20, S20⟩, ⟨%e21, S21⟩, S22, S23⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (runEven c Set.univ (grid0.coords t) _ _ _ _ _ _ _ _ _ _ _ _ _ _ _ _ _ _ _ _ _ _ _ _ _ _ _ _ _ _ _ _ _ _ _ _ _ _ _ _ _ _ _ _ _ _ (fun q => absurd (c1.mp q) (by omega)) (fun q => h8 (c2.mp q)) (c3.mpr h2) (fun q => absurd (c4.mp q) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (stAt m c t.val).sa (stAt m c t.val).sg (stAt m c t.val).wv (stAt m c t.val).wg (stAt m c t.val).v (stAt m c t.val).g _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexact H14
  isplitl [H15]; · iexact H15
  isplitl [H16]; · iexists _; iexact H16
  isplitl [S18]; · iexact S18
  isplitl [S19]; · iexact S19
  isplitl [S20]; · iexists _; iexact S20
  isplitl [S21]; · iexists _; iexact S21
  isplitl [S22]; · iexact S22
  isplitl [S23]; · iexact S23
  iintro ⟨H0, H1, H2, H3, H4, H5, H6, H7, H8, H9, H10, H11, H12, H13, H14, H15, H16, S18, S19, S20, S21, S22, S23⟩
  isplitl [S18 S19 S20 S21 S22 S23 Hr]
  · isplitl [S18 S19 S20 S21 S22 S23]
    · isplitl [S18]; · iexact S18
      isplitl [S19]; · iexact S19
      isplitl [S20]; · iexact S20
      isplitl [S21]; · iexact S21
      isplitl [S22]; · iexists _; iexact S22
      iexists _; iexact S23
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iapply (leave14 m c t h8); iexact H14
  isplitl [H15]; · iapply (leave15 m c t h8); iexact H15
  iexact H16

/-- The body at a point of this kind. -/
theorem soundOdd (c : Dev nD) (t : Fin cfg0.N) (h2 : t.val % 2 = 1) :
    bodyPre m c t ⊢ wp frame (wpE (defs₀ (F := F)) Variants.none c none) Set.univ (bodyAt0 t) (fun _ => bodyPost m c t) := by
  obtain ⟨c2, c3, c4, c1⟩ := conds t
  obtain ⟨i12, i13, i16, i14, i15⟩ := idles t
  have h8 : t.val % 8 ≠ 0 := by omega
  have es : step m c t (stAt m c t.val) = ⟨(stAt m c t.val).wv, (stAt m c t.val).wg, tileV (iblk m c 0 t) (View.ld (stAt m c t.val).wv (Rect.unit (s := S4096x256) ![0, 0] S4096x256.size inb_S4096x256_S4096x256_0_0)),
      tileG (iblk m c 0 t) (View.ld (stAt m c t.val).wg (Rect.unit (s := S4096x256) ![0, 0] S4096x256.size inb_S4096x256_S4096x256_0_0)) (before8 (grid0.coords t) (iblk m c 10 t) (stAt m c t.val).g),
      (stAt m c t.val).sa, (stAt m c t.val).sg⟩ := by
    rw [ld_weights, ld_weights]; unfold step; simp only [if_neg h8]
  unfold bodyPre bodyPost bodyAt0
  simp only [beforeW0, beforeW1, beforeW2, beforeW3, beforeW4, beforeW5, beforeW6, beforeW7, beforeW8, beforeW9, beforeW10, beforeW11, beforeW14 m c _ t.val t rfl h8, beforeW15 m c _ t.val t rfl h8]
  rw [Phi_castSucc, Phi_succ, show (dats m 0 c).owesAt () t.succ = (dats m 0 c).owesAt () t.castSucc from rfl,
    after0, after1, after2, after3, after4, after5, after6, after7, after8, after9, after10, after11,
    leave_live m c 12 t i12, leave_live m c 13 t i13, leave_live m c 16 t i16, after12, after13, after16]
  unfold Phi
  rw [if_neg (show t.val ≠ 0 by omega), if_neg (Nat.succ_ne_zero _)]
  unfold held
  rw [if_pos h2]
  rw [if_neg (show ¬ (t.val + 1) % 2 = 1 by omega)]
  rw [stAt_succ, es]
  iintro ⟨⟨⟨S18, S19, S20, S21, ⟨%e22, S22⟩, ⟨%e23, S23⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (runOdd c Set.univ (grid0.coords t) _ _ _ _ _ _ _ _ _ _ _ _ _ _ _ _ _ _ _ _ _ _ _ _ _ _ _ _ _ _ _ _ _ _ _ _ _ _ _ _ _ _ _ _ _ _ (fun q => absurd (c1.mp q) (by omega)) (fun q => h8 (c2.mp q)) (fun q => absurd (c3.mp q) (by omega)) (c4.mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (stAt m c t.val).sa (stAt m c t.val).sg (stAt m c t.val).wv (stAt m c t.val).wg (stAt m c t.val).v (stAt m c t.val).g _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexact H14
  isplitl [H15]; · iexact H15
  isplitl [H16]; · iexists _; iexact H16
  isplitl [S18]; · iexact S18
  isplitl [S19]; · iexact S19
  isplitl [S20]; · iexact S20
  isplitl [S21]; · iexact S21
  isplitl [S22]; · iexists _; iexact S22
  isplitl [S23]; · iexists _; iexact S23
  iintro ⟨H0, H1, H2, H3, H4, H5, H6, H7, H8, H9, H10, H11, H12, H13, H14, H15, H16, S18, S19, S20, S21, S22, S23⟩
  isplitl [S18 S19 S20 S21 S22 S23 Hr]
  · isplitl [S18 S19 S20 S21 S22 S23]
    · isplitl [S18]; · iexact S18
      isplitl [S19]; · iexact S19
      isplitl [S20]; · iexists _; iexact S20
      isplitl [S21]; · iexists _; iexact S21
      isplitl [S22]; · iexact S22
      iexact S23
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iapply (leave14 m c t h8); iexact H14
  isplitl [H15]; · iapply (leave15 m c t h8); iexact H15
  iexact H16

/-- The body at every point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact soundZero m c t h0
  by_cases h8 : t.val % 8 = 0
  · exact soundCol m c t h0 h8
  by_cases h2 : t.val % 2 = 0
  · exact soundEven m c t h8 h2
  · exact soundOdd m c t (by omega)

/-- The body called at a point, with the point's buffers. -/
theorem defs₀_row (t : Fin cfg0.N) : defs₀ (F := F) .tc cfg0.body (cfg0.bodyArgs t (cfg0.slots t)) = bodyAt0 t := by
  unfold defs₀; rw [Defs.onTc_tc]

/-- The body is sound at every point, as the grid asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the whole program. -/
theorem run_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := fun c => (body_obligation m c).loose) (hq := fun c w _ => by dsimp only [dats])
    (howed := fun _ _ => rfl) (V₀ := V0 m) (opss := [hostOps1]) (hsub := sfx_sub) (hfresh := sfx_fresh) (hkeep := sfx_keeps)
    (hmain := hmain m Variants.none) (hA := A_eq m)
    (hin := fun c => by
      rw [rest_eq]; dsimp only [dats]; unfold Phi; exact Entails.of_eq (if_pos rfl).symm)
    (hout := fun c => by
      rw [rest_eq]; dsimp only [dats]
      refine (Entails.of_eq (at_last (Phi m c) cfg0.N)).trans ?_
      rw [show cfg0.N = 345 from N_0]; unfold Phi
      rw [if_neg (by decide)]
      iintro ⟨H, Hr⟩
      isplitl [H]
      · iapply (held_loose m c 345); iexact H
      iexact Hr)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7)) :=
  frame_of m ρ (dats m) (A_eq m) ((θ_run defs _ _).mono (fun _ h => h.1) (run_quiescent m ρ))

/-- The arguments end unchanged and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7))
      ∧ r.2.sem = fun _ => 0) :=
  Idealize.ShloMosaic.θ_run_and (unchanged m ρ) ((θ_run defs _ _).mono (fun _ h => h.2) (run_quiescent m ρ))

end Cert.UpIdeal.Block

end
-- ==== Proof.UpHost.lean ====
/-
  The arrays that the up projection prepares before its grid starts, element by element.
-/
module

public import proofs.«01_k».proof.Proof.UpIdealData
public import Idealize.ShloMosaic.Lib.Pointwise
public import Idealize.ShloMosaic.Lib.StableHlo.ReadAt
public import Idealize.ShloMosaic.Lib.Routing.OpsSet
public import Idealize.ShloMosaic.Lib.Routing.OpsPair

@[expose] public section

set_option maxRecDepth 16384

noncomputable section

namespace Cert.UpIdeal.Block

open Cert.UpIdeal Cert.UpIdeal.Gen Idealize.ShloMosaic Idealize.ShloMosaic.TcCoe Idealize.SL.Sem

/-- A choice on a set bit. -/
theorem select_one (a b : EReal) : Scalar.select 1#1 a b = a := rfl
/-- A choice on a clear bit. -/
theorem select_zero (a b : EReal) : Scalar.select 0#1 a b = b := rfl

variable (m : (ℓ : Loc nD τ sig) → Buf (Elt Ideal) ℓ)

/-- The gate one place before each of the short sequences' rows, where it lies before the sequence. -/
theorem v20_apply (c : Dev nD) (r : Fin 32) (j : Fin 11008) : V m c main_v20 (ix2 r j) = (if r.val % 4 = 0 then (m ((c : Thread nD τ).loc main_arg7) (ix3 ⟨r.val / 4, by omega⟩ 1 j) : EReal) else (0 : EReal)) := by
  unfold V
  unfold V0
  after_reads_at
  refine (congrArg (fun q : BitVec 1 => Scalar.select q (_ : EReal) (_ : EReal)) (?_ : _ = if r.val % 4 = 0 then 1#1 else 0#1)).trans ?_
  · revert r; decide +kernel
  · by_cases h : r.val % 4 = 0
    · rw [if_pos h, if_pos h]; rfl
    · rw [if_neg h, if_neg h]; exact Ideal.ofBits_zero_f32

/-- The gate two places before. -/
theorem v28_apply (c : Dev nD) (r : Fin 32) (j : Fin 11008) : V m c main_v28 (ix2 r j) = (if r.val % 4 = 0 then (m ((c : Thread nD τ).loc main_arg7) (ix3 ⟨r.val / 4, by omega⟩ 0 j) : EReal) else if r.val % 4 = 1 then (m ((c : Thread nD τ).loc main_arg7) (ix3 ⟨r.val / 4, by omega⟩ 1 j) : EReal) else (0 : EReal)) := by
  unfold V
  unfold V0
  after_reads_at
  refine (congrArg (fun q : BitVec 1 => Scalar.select q (_ : EReal) (_ : EReal)) (?_ : _ = if r.val % 4 = 0 then 1#1 else 0#1)).trans ?_
  · revert r; decide +kernel
  · by_cases h : r.val % 4 = 0
    · rw [if_pos h, if_pos h]; rfl
    · rw [if_neg h, if_neg h]
      refine (select_zero _ _).trans ?_
      refine (congrArg (fun q : BitVec 1 => Scalar.select q (_ : EReal) (_ : EReal)) (?_ : _ = if r.val % 4 = 1 then 1#1 else 0#1)).trans ?_
      · clear h; revert r; decide +kernel
      · by_cases h1 : r.val % 4 = 1
        · rw [if_pos h1, if_pos h1]; rfl
        · rw [if_neg h1, if_neg h1]; exact Ideal.ofBits_zero_f32

/-- The convolution's bias as a row. -/
theorem v3_apply (c : Dev nD) (j : Fin 11008) : V m c main_v3 (ix2 0 j) = m ((c : Thread nD τ).loc main_arg5) (ix1 j) := by
  unfold V
  unfold V0
  after_reads_at

/-- The convolution's weights, in the first three of eight rows. -/
theorem v2_apply (c : Dev nD) (r : Fin 3) (j : Fin 11008) : V m c main_v2 (ix2 ⟨r.val, by omega⟩ j) = m ((c : Thread nD τ).loc main_arg4) (ix2 r j) := by
  unfold V
  unfold V0
  after_reads_at
  have key : ∀ (k : S3x11008.Idx) (ι : S8x11008.Idx), ScatterDims.resultIdx? scatter_S8x11008_S1_S3x11008_01_n_0_0 k (broadcastInDim S1 ![] bcast_S_S1 (constantI S_ 32 0#32)) = some ι
      ↔ (k 0).val = (ι 0).val ∧ (k 1).val = (ι 1).val := by
    intro k ι
    rw [Routing.resultIdx?_eq_some]
    constructor
    · intro h
      have h0 : (0 : ℤ) + ((k 0).val : ℤ) = ((ι 0).val : ℤ) := h 0
      have h1 : (0 : ℤ) + ((k 1).val : ℤ) = ((ι 1).val : ℤ) := h 1
      exact ⟨by omega, by omega⟩
    · rintro ⟨h0, h1⟩ d
      match d with
      | ⟨0, _⟩ => show (0 : ℤ) + ((k 0).val : ℤ) = ((ι 0).val : ℤ); omega
      | ⟨1, _⟩ => show (0 : ℤ) + ((k 1).val : ℤ) = ((ι 1).val : ℤ); omega
  refine Routing.scatter_set_hit _ _ _ _ _ _ (fun k hk => ?_) (ix2 r j) ((key _ _).2 ⟨rfl, rfl⟩)
  obtain ⟨h0, h1⟩ := (key _ _).1 hk
  refine congrArg (m ((c : Thread nD τ).loc main_arg4)) (funext fun d => Fin.ext ?_)
  match d with
  | ⟨0, _⟩ => exact h0
  | ⟨1, _⟩ => exact h1

/-- The two gates before each long sequence, in the last two of eight rows. -/
theorem v6_apply (c : Dev nD) (b : Fin 4) (t : Fin 2) (j : Fin 11008) : V m c main_v6 (ix3 b ⟨6 + t.val, by omega⟩ j) = m ((c : Thread nD τ).loc main_arg6) (ix3 b t j) := by
  unfold V
  unfold V0
  after_reads_at
  have key : ∀ (k : S4x2x11008.Idx) (ι : S4x8x11008.Idx), ScatterDims.resultIdx? scatter_S4x8x11008_S1_S4x2x11008_012_n_1_0 k (broadcastInDim S1 ![] bcast_S_S1 (constantI S_ 32 6#32)) = some ι
      ↔ (k 0).val = (ι 0).val ∧ 6 + (k 1).val = (ι 1).val ∧ (k 2).val = (ι 2).val := by
    intro k ι
    rw [Routing.resultIdx?_eq_some]
    constructor
    · intro h
      have h0 : (0 : ℤ) + ((k 0).val : ℤ) = ((ι 0).val : ℤ) := h 0
      have h1 : (6 : ℤ) + ((k 1).val : ℤ) = ((ι 1).val : ℤ) := h 1
      have h2 : (0 : ℤ) + ((k 2).val : ℤ) = ((ι 2).val : ℤ) := h 2
      exact ⟨by omega, by omega, by omega⟩
    · rintro ⟨h0, h1, h2⟩ d
      match d with
      | ⟨0, _⟩ => show (0 : ℤ) + ((k 0).val : ℤ) = ((ι 0).val : ℤ); omega
      | ⟨1, _⟩ => show (6 : ℤ) + ((k 1).val : ℤ) = ((ι 1).val : ℤ); omega
      | ⟨2, _⟩ => show (0 : ℤ) + ((k 2).val : ℤ) = ((ι 2).val : ℤ); omega
  refine Routing.scatter_set_hit _ _ _ _ _ _ (fun k hk => ?_) (ix3 b t j) ((key _ _).2 ⟨rfl, rfl, rfl⟩)
  obtain ⟨h0, h1, h2⟩ := (key _ _).1 hk
  have h1' : 6 + (k 1).val = 6 + t.val := h1
  refine congrArg (m ((c : Thread nD τ).loc main_arg6)) (funext fun d => Fin.ext ?_)
  match d with
  | ⟨0, _⟩ => exact h0
  | ⟨1, _⟩ => exact Nat.add_left_cancel h1'
  | ⟨2, _⟩ => exact h2

end Cert.UpIdeal.Block

end
-- ==== Proof.UpInv.lean ====
/-
  The state that the up projection's body carries from point to point: at every point the weights of its column of tiles, the
  values and gates of its tile, and the results of the short sequences in its column.
-/
module

public import proofs.«01_k».proof.Proof.UpPay
public import proofs.«01_k».proof.Proof.UpHost

@[expose] public section

set_option maxHeartbeats 4000000
set_option maxRecDepth 16384

noncomputable section

namespace Cert.UpIdeal.Block

open Cert.UpIdeal Cert.UpIdeal.Gen Idealize.ShloMosaic Idealize.ShloMosaic.TcCoe Idealize.SL.Sem

variable (m : (ℓ : Loc nD τ sig) → Buf (Elt Ideal) ℓ)

/-- The long sequences' arrays. -/
abbrev long (c : Dev nD) : Args :=
  args (R := 8192) (L := 2) (Q := 4) (m ((c : Thread nD τ).loc main_arg0)) (m ((c : Thread nD τ).loc main_arg2)) (m ((c : Thread nD τ).loc main_arg6))
    (m ((c : Thread nD τ).loc main_arg4)) (m ((c : Thread nD τ).loc main_arg5))
/-- The short sequences' arrays. -/
abbrev short (c : Dev nD) : Args :=
  args (R := 32) (L := 2) (Q := 8) (m ((c : Thread nD τ).loc main_arg1)) (m ((c : Thread nD τ).loc main_arg2)) (m ((c : Thread nD τ).loc main_arg7))
    (m ((c : Thread nD τ).loc main_arg4)) (m ((c : Thread nD τ).loc main_arg5))

/-- The column of tiles a point works in. -/
def col (t : ℕ) : ℕ := min (t / 8) 42

/-- A point's column is one of the columns. -/
theorem col_lt (t y : ℕ) (h : y < 256) : 256 * col t + y < 11008 := by unfold col; omega

/-- Where a point's tile of long inputs and its block of short inputs begin. -/
theorem offs0 : ∀ t : Fin cfg0.N, win0_0.index t 0 = t.val % 8 ∧ win0_0.index t 1 = 0 ∧ win0_1.index t 0 = 0 ∧ win0_1.index t 1 = 0 :=
  (by decide +kernel : ∀ t : Fin grid0.N, win0_0.index t 0 = t.val % 8 ∧ win0_0.index t 1 = 0 ∧ win0_1.index t 0 = 0 ∧ win0_1.index t 1 = 0)
/-- Where the value weights and the gate weights of a point begin. -/
theorem offs2 : ∀ t : Fin cfg0.N, win0_2.index t 0 = 0 ∧ win0_2.index t 1 = 0 ∧ win0_2.index t 2 = col t.val ∧ win0_3.index t 0 = 0 ∧ win0_3.index t 1 = 0 ∧ win0_3.index t 2 = 43 + col t.val :=
  (by decide +kernel : ∀ t : Fin grid0.N, win0_2.index t 0 = 0 ∧ win0_2.index t 1 = 0 ∧ win0_2.index t 2 = col t.val ∧ win0_3.index t 0 = 0 ∧ win0_3.index t 1 = 0 ∧ win0_3.index t 2 = 43 + col t.val)
/-- Where the taps, the bias and the two blocks of earlier short gates of a point begin. -/
theorem offs4 : ∀ t : Fin cfg0.N, win0_4.index t 0 = 0 ∧ win0_4.index t 1 = col t.val ∧ win0_5.index t 0 = 0 ∧ win0_5.index t 1 = col t.val ∧ win0_6.index t 0 = 0 ∧ win0_6.index t 1 = col t.val ∧ win0_7.index t 0 = 0 ∧ win0_7.index t 1 = col t.val :=
  (by decide +kernel : ∀ t : Fin grid0.N, win0_4.index t 0 = 0 ∧ win0_4.index t 1 = col t.val ∧ win0_5.index t 0 = 0 ∧ win0_5.index t 1 = col t.val ∧ win0_6.index t 0 = 0 ∧ win0_6.index t 1 = col t.val ∧ win0_7.index t 0 = 0 ∧ win0_7.index t 1 = col t.val)
/-- Where the taps and the bias for the tile of the point before begin. -/
theorem offs8 : ∀ t : Fin cfg0.N, win0_8.index t 0 = 0 ∧ win0_8.index t 1 = col (t.val - 1) ∧ win0_9.index t 0 = 0 ∧ win0_9.index t 1 = col (t.val - 1) :=
  (by decide +kernel : ∀ t : Fin grid0.N, win0_8.index t 0 = 0 ∧ win0_8.index t 1 = col (t.val - 1) ∧ win0_9.index t 0 = 0 ∧ win0_9.index t 1 = col (t.val - 1))
/-- Where the first rows of a point's sequence begin. -/
theorem offs10 : ∀ t : Fin cfg0.N, win0_10.index t 0 = t.val % 8 / 2 ∧ win0_10.index t 1 = 0 ∧ win0_10.index t 2 = col t.val :=
  (by decide +kernel : ∀ t : Fin grid0.N, win0_10.index t 0 = t.val % 8 / 2 ∧ win0_10.index t 1 = 0 ∧ win0_10.index t 2 = col t.val)
/-- Where the down weights of a point begin. -/
theorem offs11 : ∀ t : Fin cfg0.N, win0_11.index t 0 = 0 ∧ win0_11.index t 1 = min t.val 343 ∧ win0_11.index t 2 = 0 :=
  (by decide +kernel : ∀ t : Fin grid0.N, win0_11.index t 0 = 0 ∧ win0_11.index t 1 = min t.val 343 ∧ win0_11.index t 2 = 0)
/-- A new sequence begins at the even points. -/
theorem bits : ∀ t : Fin cfg0.N, (seqBit (grid0.coords t) = 1#1) ↔ t.val % 2 = 0 :=
  (by decide +kernel : ∀ t : Fin grid0.N, (seqBit (grid0.coords t) = 1#1) ↔ t.val % 2 = 0)

/-- The block of activations. -/
theorem blk0 (c : Dev nD) (t : Fin cfg0.N) (a : Fin 1024) (k : Fin 4096) : (iblk m c 0 t (ix2 a k) : EReal) = (long m c).x (1024 * (t.val % 8) + a.val) k.val := by
  obtain ⟨e0, e1, -, -⟩ := offs0 t
  show V m c main_arg0 _ = _
  rw [V_main_arg0]
  refine at2_of _ _ _ _ ?_ ?_
  · show win0_0.index t 0 * 1024 + 1 * a.val = _; rw [e0]; omega
  · show win0_0.index t 1 * 4096 + 1 * k.val = _; rw [e1]; omega
/-- The short sequences' activations. -/
theorem blk1 (c : Dev nD) (t : Fin cfg0.N) (a : Fin 32) (k : Fin 4096) : (iblk m c 1 t (ix2 a k) : EReal) = (short m c).x a.val k.val := by
  obtain ⟨-, -, e0, e1⟩ := offs0 t
  show V m c main_arg1 _ = _
  rw [V_main_arg1]
  refine at2_of _ _ _ _ ?_ ?_
  · show win0_1.index t 0 * 32 + 1 * a.val = _; rw [e0]; omega
  · show win0_1.index t 1 * 4096 + 1 * k.val = _; rw [e1]; omega
/-- The block of value weights. -/
theorem blk2 (c : Dev nD) (t : Fin cfg0.N) (k : Fin 4096) (y : Fin 256) : (iblk m c 2 t (ix3 0 k y) : EReal) = (long m c).w k.val (256 * col t.val + y.val) := by
  obtain ⟨e0, e1, e2, -, -, -⟩ := offs2 t
  show V m c main_arg2 _ = _
  rw [V_main_arg2]
  refine at3_of _ _ _ _ _ ?_ ?_ ?_
  · show win0_2.index t 0 * 1 + 1 * 0 = _; rw [e0]
  · show win0_2.index t 1 * 4096 + 1 * k.val = _; rw [e1]; omega
  · show win0_2.index t 2 * 256 + 1 * y.val = _; rw [e2]; omega
/-- The block of gate weights. -/
theorem blk3 (c : Dev nD) (t : Fin cfg0.N) (k : Fin 4096) (y : Fin 256) : (iblk m c 3 t (ix3 0 k y) : EReal) = (long m c).w k.val (11008 + (256 * col t.val + y.val)) := by
  obtain ⟨-, -, -, e0, e1, e2⟩ := offs2 t
  show V m c main_arg2 _ = _
  rw [V_main_arg2]
  refine at3_of _ _ _ _ _ ?_ ?_ ?_
  · show win0_3.index t 0 * 1 + 1 * 0 = _; rw [e0]
  · show win0_3.index t 1 * 4096 + 1 * k.val = _; rw [e1]; omega
  · show win0_3.index t 2 * 256 + 1 * y.val = _; rw [e2]; omega

/-- The value weights of a point, entry by entry. -/
theorem v2_at (c : Dev nD) (r : Fin 3) (j : ℕ) (h : j < 11008) : at2 (M := 8) (N := 11008) (V m c main_v2) r.val j = (long m c).cw r.val j := by
  rw [at2, dif_pos ⟨by omega, h⟩]
  exact (v2_apply m c r ⟨j, h⟩).trans (at2_of _ _ _ _ rfl rfl)
/-- The gate weights of a point, entry by entry. -/
theorem v3_at (c : Dev nD) (j : ℕ) (h : j < 11008) : at2 (M := 1) (N := 11008) (V m c main_v3) 0 j = (long m c).cb j := by
  rw [at2, dif_pos ⟨by omega, h⟩]
  exact (v3_apply m c ⟨j, h⟩).trans (at1_of _ _ _ rfl)

/-- The convolution's weights of a point's column. -/
theorem blk4 (c : Dev nD) (t : Fin cfg0.N) (r : Fin 8) (r' : Fin 3) (e : r.val = r'.val) (y : Fin 256) : (iblk m c 4 t (ix2 r y) : EReal) = (long m c).cw r'.val (256 * col t.val + y.val) := by
  obtain ⟨e0, e1, -⟩ := offs4 t
  refine Eq.trans ?_ (v2_at m c r' _ (col_lt t.val y.val y.isLt))
  show V m c main_v2 _ = _
  refine at2_of (M := 8) (N := 11008) _ _ _ _ ?_ ?_
  · show win0_4.index t 0 * 8 + 1 * r.val = _; rw [e0]; omega
  · show win0_4.index t 1 * 256 + 1 * y.val = _; rw [e1]; omega
/-- The convolution's bias of a point's column. -/
theorem blk5 (c : Dev nD) (t : Fin cfg0.N) (y : Fin 256) : (iblk m c 5 t (ix2 0 y) : EReal) = (long m c).cb (256 * col t.val + y.val) := by
  obtain ⟨-, -, e0, e1, -⟩ := offs4 t
  refine Eq.trans ?_ (v3_at m c _ (col_lt t.val y.val y.isLt))
  show V m c main_v3 _ = _
  refine at2_of (M := 1) (N := 11008) _ _ _ _ ?_ ?_
  · show win0_5.index t 0 * 1 + 1 * 0 = _; rw [e0]
  · show win0_5.index t 1 * 256 + 1 * y.val = _; rw [e1]; omega
/-- The convolution's weights of the column before. -/
theorem blk8 (c : Dev nD) (t : Fin cfg0.N) (r : Fin 8) (r' : Fin 3) (e : r.val = r'.val) (y : Fin 256) : (iblk m c 8 t (ix2 r y) : EReal) = (long m c).cw r'.val (256 * col (t.val - 1) + y.val) := by
  obtain ⟨e0, e1, -⟩ := offs8 t
  refine Eq.trans ?_ (v2_at m c r' _ (col_lt (t.val - 1) y.val y.isLt))
  show V m c main_v2 _ = _
  refine at2_of (M := 8) (N := 11008) _ _ _ _ ?_ ?_
  · show win0_8.index t 0 * 8 + 1 * r.val = _; rw [e0]; omega
  · show win0_8.index t 1 * 256 + 1 * y.val = _; rw [e1]; omega
/-- The convolution's bias of the column before. -/
theorem blk9 (c : Dev nD) (t : Fin cfg0.N) (y : Fin 256) : (iblk m c 9 t (ix2 0 y) : EReal) = (long m c).cb (256 * col (t.val - 1) + y.val) := by
  obtain ⟨-, -, e0, e1⟩ := offs8 t
  refine Eq.trans ?_ (v3_at m c _ (col_lt (t.val - 1) y.val y.isLt))
  show V m c main_v3 _ = _
  refine at2_of (M := 1) (N := 11008) _ _ _ _ ?_ ?_
  · show win0_9.index t 0 * 1 + 1 * 0 = _; rw [e0]
  · show win0_9.index t 1 * 256 + 1 * y.val = _; rw [e1]; omega
/-- The gate one place before a short sequence's row, where it lies before the sequence. -/
theorem blk6 (c : Dev nD) (t : Fin cfg0.N) (a : Fin 32) (y : Fin 256) (h : a.val % 4 = 0) : (iblk m c 6 t (ix2 a y) : EReal) = (short m c).s (a.val / 4) 1 (256 * col t.val + y.val) := by
  obtain ⟨-, -, -, -, e0, e1, -, -⟩ := offs4 t
  have hj := col_lt t.val y.val y.isLt
  refine Eq.trans (b := at2 (M := 32) (N := 11008) (V m c main_v20) a.val (256 * col t.val + y.val)) ?_ ?_
  · show V m c main_v20 _ = _
    refine at2_of (M := 32) (N := 11008) _ _ _ _ ?_ ?_
    · show win0_6.index t 0 * 32 + 1 * a.val = _; rw [e0]; omega
    · show win0_6.index t 1 * 256 + 1 * y.val = _; rw [e1]; omega
  · rw [at2, dif_pos ⟨a.isLt, hj⟩]
    refine (v20_apply m c a ⟨_, hj⟩).trans ?_
    rw [if_pos h]
    exact at3_of _ _ _ _ _ rfl rfl rfl
/-- The gate two places before. -/
theorem blk7 (c : Dev nD) (t : Fin cfg0.N) (a : Fin 32) (y : Fin 256) (h : a.val % 4 < 2) : (iblk m c 7 t (ix2 a y) : EReal) = (short m c).s (a.val / 4) (a.val % 4) (256 * col t.val + y.val) := by
  obtain ⟨-, -, -, -, -, -, e0, e1⟩ := offs4 t
  have hj := col_lt t.val y.val y.isLt
  refine Eq.trans (b := at2 (M := 32) (N := 11008) (V m c main_v28) a.val (256 * col t.val + y.val)) ?_ ?_
  · show V m c main_v28 _ = _
    refine at2_of (M := 32) (N := 11008) _ _ _ _ ?_ ?_
    · show win0_7.index t 0 * 32 + 1 * a.val = _; rw [e0]; omega
    · show win0_7.index t 1 * 256 + 1 * y.val = _; rw [e1]; omega
  · rw [at2, dif_pos ⟨a.isLt, hj⟩]
    refine (v28_apply m c a ⟨_, hj⟩).trans ?_
    by_cases h0 : a.val % 4 = 0
    · rw [if_pos h0]
      exact at3_of _ _ _ _ _ rfl h0.symm rfl
    · have h1 : a.val % 4 = 1 := by omega
      rw [if_neg h0, if_pos h1]
      exact at3_of _ _ _ _ _ rfl h1.symm rfl
/-- The two gates before a long sequence. -/
theorem blk10 (c : Dev nD) (t : Fin cfg0.N) (q : Fin 8) (y : Fin 256) (h : 6 ≤ q.val) : (iblk m c 10 t (ix3 0 q y) : EReal) = (long m c).s (t.val % 8 / 2) (q.val - 6) (256 * col t.val + y.val) := by
  obtain ⟨e0, e1, e2⟩ := offs10 t
  have hj := col_lt t.val y.val y.isLt
  refine Eq.trans (b := at3 (L := 4) (M := 8) (N := 11008) (V m c main_v6) (t.val % 8 / 2) q.val (256 * col t.val + y.val)) ?_ ?_
  · show V m c main_v6 _ = _
    refine at3_of (L := 4) (M := 8) (N := 11008) _ _ _ _ _ ?_ ?_ ?_
    · show win0_10.index t 0 * 1 + 1 * 0 = _; rw [e0]; omega
    · show win0_10.index t 1 * 8 + 1 * q.val = _; rw [e1]; omega
    · show win0_10.index t 2 * 256 + 1 * y.val = _; rw [e2]; omega
  · rw [at3, dif_pos ⟨by omega, q.isLt, hj⟩]
    have hq := q.isLt
    have e := v6_apply m c ⟨t.val % 8 / 2, by omega⟩ ⟨q.val - 6, by omega⟩ ⟨_, hj⟩
    have hi : 6 + (q.val - 6) = q.val := by omega
    simp only [hi] at e
    exact e.trans (at3_of _ _ _ _ _ rfl rfl rfl)
/-- The block of other weights. -/
theorem blk11 (c : Dev nD) (t : Fin cfg0.N) (a : Fin 32) (y : Fin 4096) : (iblk m c 11 t (ix3 0 a y) : EReal) = at3 (L := 2) (M := 11008) (N := 4096) (m ((c : Thread nD τ).loc main_arg3)) 0 (32 * min t.val 343 + a.val) y.val := by
  obtain ⟨e0, e1, e2⟩ := offs11 t
  show V m c main_arg3 _ = _
  rw [V_main_arg3]
  refine at3_of (L := 2) (M := 11008) (N := 4096) _ _ _ _ _ ?_ ?_ ?_
  · show win0_11.index t 0 * 1 + 1 * 0 = _; rw [e0]
  · show win0_11.index t 1 * 32 + 1 * a.val = _; rw [e1]; omega
  · show win0_11.index t 2 * 4096 + 1 * y.val = _; rw [e2]; omega

/-- What the state after point `t` holds. -/
structure Good (c : Dev nD) (t : ℕ) (s : St Ideal) : Prop where
  wv : ∀ (k : Fin 4096) (y : Fin 256), (s.wv (ix2 k y) : EReal) = (long m c).w k.val (256 * col t + y.val)
  wg : ∀ (k : Fin 4096) (y : Fin 256), (s.wg (ix2 k y) : EReal) = (long m c).w k.val (11008 + (256 * col t + y.val))
  v : ∀ (a : Fin 1024) (y : Fin 256), (s.v (ix2 a y) : EReal) = val (long m c) (1024 * (t % 8) + a.val) (256 * col t + y.val)
  g : ∀ (a : Fin 1032) (y : Fin 256), 6 ≤ a.val → (s.g (ix2 a y) : EReal) = ext (long m c) 2048 (t % 8 / 2) (1024 * (t % 2) + (a.val - 6)) (256 * col t + y.val)
  sa : ∀ (a : Fin 32) (y : Fin 256), (s.sa (ix2 a y) : EReal) = act (short m c) 4 a.val (256 * col t + y.val)
  sg : ∀ (a : Fin 32) (y : Fin 256), (s.sg (ix2 a y) : EReal) = gate (short m c) a.val (256 * col t + y.val)

/-- The cast value weights, entry by entry. -/
theorem rawV_at (c : Dev nD) (t : Fin cfg0.N) (k : Fin 4096) (y : Fin 256) : (rawV (F := Ideal) (iblk m c 2 t) (ix2 k y) : EReal) = (long m c).w k.val (256 * col t.val + y.val) :=
  (pay6_apply _ _ _).trans ((ld3 _ _ 0 k y).trans (blk2 m c t k y))
/-- The cast gate weights, entry by entry. -/
theorem rawG_at (c : Dev nD) (t : Fin cfg0.N) (k : Fin 4096) (y : Fin 256) : (rawG (F := Ideal) (iblk m c 3 t) (ix2 k y) : EReal) = (long m c).w k.val (11008 + (256 * col t.val + y.val)) :=
  (pay7_apply _ _ _).trans ((ld3 _ _ 0 k y).trans (blk3 m c t k y))

/-- The short sequences' results at the first point of a column. -/
theorem shortA_at (c : Dev nD) (t : Fin cfg0.N) (a : Fin 32) (y : Fin 256) :
    (shortA (F := Ideal) (iblk m c 1 t) (rawV (iblk m c 2 t)) (rawG (iblk m c 3 t)) (iblk m c 4 t) (iblk m c 5 t) (iblk m c 6 t) (iblk m c 7 t) (ix2 a y) : EReal)
      = act (short m c) 4 a.val (256 * col t.val + y.val) := by
  have hg : ∀ b : Fin 32, (∑ k : Fin 4096, @HMul.hMul EReal EReal EReal _ (iblk m c 1 t (ix2 b k)) (rawG (F := Ideal) (iblk m c 3 t) (ix2 k y))) = gate (short m c) b.val (256 * col t.val + y.val) :=
    fun b => Finset.sum_congr rfl fun k _ => congrArg₂ (· * ·) (blk1 m c t b k) (rawG_at m c t k y)
  have ha := a.isLt
  refine (shortA_apply _ _ _ _ _ _ _ a y (ext (short m c) 4 (a.val / 4) (a.val % 4) (256 * col t.val + y.val)) (ext (short m c) 4 (a.val / 4) (a.val % 4 + 1) (256 * col t.val + y.val))
    (ext (short m c) 4 (a.val / 4) (a.val % 4 + 2) (256 * col t.val + y.val)) (val (short m c) a.val (256 * col t.val + y.val)) ?_ ?_ ?_ ?_).trans ?_
  · exact Finset.sum_congr rfl fun k _ => congrArg₂ (· * ·) (blk1 m c t a k) (rawV_at m c t k y)
  · rw [ext_hi _ _ _ _ _ a.val (by omega) (by omega)]; exact hg a
  · by_cases h : a.val % 4 = 0
    · rw [if_pos h, ext_lo _ _ _ _ _ (by omega), h]; exact blk6 m c t a y h
    · rw [if_neg h, ext_hi _ _ _ _ _ (a.val - 1) (by omega) (by omega)]; exact hg ⟨a.val - 1, by omega⟩
  · by_cases h : a.val % 4 < 2
    · rw [if_pos h, ext_lo _ _ _ _ _ h]; exact blk7 m c t a y h
    · rw [if_neg h, ext_hi _ _ _ _ _ (a.val - 2) (by omega) (by omega)]; exact hg ⟨a.val - 2, by omega⟩
  · unfold act conv
    rw [blk5, blk4 m c t 0 0 rfl, blk4 m c t 1 1 rfl, blk4 m c t 2 2 rfl]
    rfl

/-- A point's step keeps the description. -/
theorem good_step (c : Dev nD) (t : Fin cfg0.N) (s : St Ideal) (hp : t.val % 8 ≠ 0 → Good m c (t.val - 1) s) : Good m c t.val (step m c t s) := by
  have hcol : t.val % 8 ≠ 0 → col (t.val - 1) = col t.val := by intro h; unfold col; omega
  have hwv : ∀ (k : Fin 4096) (y : Fin 256), ((step m c t s).wv (ix2 k y) : EReal) = (long m c).w k.val (256 * col t.val + y.val) := by
    intro k y
    show ((if t.val % 8 = 0 then rawV (iblk m c 2 t) else s.wv) (ix2 k y) : EReal) = _
    by_cases h : t.val % 8 = 0
    · rw [if_pos h]; exact rawV_at m c t k y
    · rw [if_neg h, ← hcol h]; exact (hp h).wv k y
  have hwg : ∀ (k : Fin 4096) (y : Fin 256), ((step m c t s).wg (ix2 k y) : EReal) = (long m c).w k.val (11008 + (256 * col t.val + y.val)) := by
    intro k y
    show ((if t.val % 8 = 0 then rawG (iblk m c 3 t) else s.wg) (ix2 k y) : EReal) = _
    by_cases h : t.val % 8 = 0
    · rw [if_pos h]; exact rawG_at m c t k y
    · rw [if_neg h, ← hcol h]; exact (hp h).wg k y
  refine ⟨hwv, hwg, ?_, ?_, ?_, ?_⟩
  · intro a y
    show (tileV (F := Ideal) (iblk m c 0 t) (step m c t s).wv (ix2 a y) : EReal) = _
    rw [tileV_apply]
    exact Finset.sum_congr rfl fun k _ => congrArg₂ (· * ·) (blk0 m c t a k) (hwv k y)
  · intro a y ha
    show (tileG (F := Ideal) (iblk m c 0 t) (step m c t s).wg (before8 (grid0.coords t) (iblk m c 10 t) s.g) (ix2 a y) : EReal) = _
    rw [tileG_apply]
    unfold elG
    by_cases h8 : a.val < 8
    · rw [dif_pos (show ((ix2 a y : S1032x256.Idx) 0).val < 8 from h8)]
      refine (before8_apply _ _ _ ⟨a.val, h8⟩ y).trans ?_
      by_cases h2 : t.val % 2 = 0
      · rw [if_pos ((bits t).2 h2), ext_lo _ _ _ _ _ (by omega)]
        refine (blk10 m c t ⟨a.val, h8⟩ y ha).trans ?_
        show (long m c).s _ (a.val - 6) _ = _
        rw [h2]; congr 1; omega
      · rw [if_neg (fun h => h2 ((bits t).1 h))]
        have h0 : t.val % 8 ≠ 0 := by omega
        refine ((hp h0).g ⟨1024 + a.val, by omega⟩ y (by show 6 ≤ 1024 + a.val; omega)).trans ?_
        rw [hcol h0]
        congr 1
        · omega
        · show 1024 * ((t.val - 1) % 2) + (1024 + a.val - 6) = _; omega
    · rw [dif_neg (show ¬ ((ix2 a y : S1032x256.Idx) 0).val < 8 from h8)]
      rw [ext_hi _ _ _ _ _ (1024 * (t.val % 8) + (a.val - 8)) (by omega) (by omega)]
      exact Finset.sum_congr rfl fun k _ => congrArg₂ (· * ·) (blk0 m c t ⟨a.val - 8, by omega⟩ k) (hwg k y)
  · intro a y
    show ((if t.val % 8 = 0 then shortA (iblk m c 1 t) (rawV (iblk m c 2 t)) (rawG (iblk m c 3 t)) (iblk m c 4 t) (iblk m c 5 t) (iblk m c 6 t) (iblk m c 7 t) else s.sa) (ix2 a y) : EReal) = _
    by_cases h : t.val % 8 = 0
    · rw [if_pos h]; exact shortA_at m c t a y
    · rw [if_neg h, ← hcol h]; exact (hp h).sa a y
  · intro a y
    show ((if t.val % 8 = 0 then shortG (iblk m c 1 t) (rawG (iblk m c 3 t)) else s.sg) (ix2 a y) : EReal) = _
    by_cases h : t.val % 8 = 0
    · rw [if_pos h, shortG_apply]
      exact Finset.sum_congr rfl fun k _ => congrArg₂ (· * ·) (blk1 m c t a k) (rawG_at m c t k y)
    · rw [if_neg h, ← hcol h]; exact (hp h).sg a y

/-- The state after every point is as described. -/
theorem good (c : Dev nD) : ∀ (n : ℕ) (t : Fin cfg0.N), t.val = n → Good m c t.val (stAt m c (t.val + 1)) := by
  intro n
  induction n with
  | zero => intro t ht; rw [stAt_succ]; exact good_step m c t _ fun h => absurd (by omega) h
  | succ n ih =>
    intro t ht
    rw [stAt_succ]
    refine good_step m c t _ fun _ => ?_
    have h := ih ⟨n, by have := t.isLt; omega⟩ rfl
    have e : t.val - 1 = n := by omega
    rw [e, ht]
    exact h

end Cert.UpIdeal.Block

end
-- ==== Proof.UpOut.lean ====
/-
  The five results of the up projection as functions of its arrays.
-/
module

public import proofs.«01_k».proof.Proof.UpSpec

@[expose] public section

set_option maxRecDepth 16384

noncomputable section

namespace Cert.UpIdeal.Block

open Idealize.ShloMosaic

/-- The long sequences' results. -/
def outLong (A : Args) (i : (⟨2, ![8192, 11008]⟩ : Shape).Idx) : EReal := act A 2048 (i 0).val (i 1).val
/-- The short sequences' results. -/
def outShort (A : Args) (i : (⟨2, ![32, 11008]⟩ : Shape).Idx) : EReal := act A 4 (i 0).val (i 1).val
/-- The last two gates of each long sequence. -/
def lastLong (A : Args) (i : (⟨3, ![4, 2, 11008]⟩ : Shape).Idx) : EReal := ext A 2048 (i 0).val (2048 + (i 1).val) (i 2).val
/-- The last two gates of each short sequence. -/
def lastShort (A : Args) (i : (⟨3, ![8, 2, 11008]⟩ : Shape).Idx) : EReal := ext A 4 (i 0).val (4 + (i 1).val) (i 2).val
/-- The first of two matrices of weights. -/
def outW (X : (⟨3, ![2, 11008, 4096]⟩ : Shape).Idx → EReal) (i : (⟨2, ![11008, 4096]⟩ : Shape).Idx) : EReal := at3 X 0 (i 0).val (i 1).val

end Cert.UpIdeal.Block

end
-- ==== Proof.UpRef.lean ====
/-
  The plain up projection's results, element by element.
-/
module

public import proofs.«01_k».proof.Proof.UpOut
public import proofs.«01_k».proof.Proof.Gen.UpRefIdeal.Run

@[expose] public section

set_option maxHeartbeats 4000000
set_option maxRecDepth 16384

noncomputable section

namespace Cert.UpIdeal.Block

open Cert.UpRefIdeal Idealize.ShloMosaic Idealize.ShloMosaic.TcCoe Idealize.SL.Sem

variable (m : (ℓ : Loc UpRefIdeal.nD UpRefIdeal.τ UpRefIdeal.sig) → Buf (Elt Ideal) ℓ)

/-- The long sequences' arrays of a memory of the plain program. -/
abbrev refLong (c : Dev UpRefIdeal.nD) : Args :=
  args (R := 8192) (L := 2) (Q := 4) (m ((c.tc : Thread UpRefIdeal.nD UpRefIdeal.τ).loc UpRefIdeal.main_arg0)) (m ((c.tc : Thread UpRefIdeal.nD UpRefIdeal.τ).loc UpRefIdeal.main_arg2))
    (m ((c.tc : Thread UpRefIdeal.nD UpRefIdeal.τ).loc UpRefIdeal.main_arg6)) (m ((c.tc : Thread UpRefIdeal.nD UpRefIdeal.τ).loc UpRefIdeal.main_arg4)) (m ((c.tc : Thread UpRefIdeal.nD UpRefIdeal.τ).loc UpRefIdeal.main_arg5))
/-- The short sequences' arrays. -/
abbrev refShort (c : Dev UpRefIdeal.nD) : Args :=
  args (R := 32) (L := 2) (Q := 8) (m ((c.tc : Thread UpRefIdeal.nD UpRefIdeal.τ).loc UpRefIdeal.main_arg1)) (m ((c.tc : Thread UpRefIdeal.nD UpRefIdeal.τ).loc UpRefIdeal.main_arg2))
    (m ((c.tc : Thread UpRefIdeal.nD UpRefIdeal.τ).loc UpRefIdeal.main_arg7)) (m ((c.tc : Thread UpRefIdeal.nD UpRefIdeal.τ).loc UpRefIdeal.main_arg4)) (m ((c.tc : Thread UpRefIdeal.nD UpRefIdeal.τ).loc UpRefIdeal.main_arg5))

/-- The long sequences' results. -/
theorem ref_long (c : Dev UpRefIdeal.nD) (r : Fin 8192) (j : Fin 11008) :
    (UpRefIdeal.Value.res_main_v35 (F := Ideal) m c (ix2 r j) : EReal) = act (refLong m c) 2048 r.val j.val := by
  pointwise [UpRefIdeal.Value.res_main_v35]
  refine congrArg₂ (· * ·) (congrArg (fun z : EReal => z * Ideal.div 1 (1 + Ideal.exp (-z))) (?_ : _ = conv (refLong m c) 2048 (r.val / 2048) (r.val % 2048) j.val)) ?_
  · refine congrArg₂ (· + ·) (congrArg₂ (· + ·) (congrArg₂ (· + ·) (at1_of _ _ _ rfl) ?_) ?_) ?_
    · refine congrArg₂ (· * ·) (at2_of _ _ _ _ rfl rfl) ?_
      split
      · rename_i h; rw [ext_lo _ _ _ _ _ h]; exact at3_of _ _ _ _ _ rfl rfl rfl
      · rename_i h; rw [ext_hi _ _ _ _ _ (r.val / 2048 * 2048 + (r.val % 2048 - 2)) h (by omega)]
        exact Finset.sum_congr rfl fun k _ => congrArg₂ (· * ·) (at2_of _ _ _ _ rfl rfl) (at3_of _ _ _ _ _ rfl rfl rfl)
    · refine congrArg₂ (· * ·) (at2_of _ _ _ _ rfl rfl) ?_
      split
      · rename_i h; rw [ext_lo _ _ _ _ _ (by omega)]; exact at3_of _ _ _ _ _ rfl (Nat.add_comm _ _) rfl
      · rename_i h; rw [ext_hi _ _ _ _ _ (r.val / 2048 * 2048 + (1 + r.val % 2048 - 2)) (by omega) (by omega)]
        exact Finset.sum_congr rfl fun k _ => congrArg₂ (· * ·) (at2_of _ _ _ _ rfl rfl) (at3_of _ _ _ _ _ rfl rfl rfl)
    · refine congrArg₂ (· * ·) (at2_of _ _ _ _ rfl rfl) ?_
      rw [ext_hi _ _ _ _ _ r.val (by omega) (by omega)]
      exact Finset.sum_congr rfl fun k _ => congrArg₂ (· * ·) (at2_of _ _ _ _ rfl rfl) (at3_of _ _ _ _ _ rfl rfl rfl)
  · exact Finset.sum_congr rfl fun k _ => congrArg₂ (· * ·) (at2_of _ _ _ _ rfl rfl) (at3_of _ _ _ _ _ rfl rfl rfl)

/-- The short sequences' results. -/
theorem ref_short (c : Dev UpRefIdeal.nD) (r : Fin 32) (j : Fin 11008) :
    (UpRefIdeal.Value.res_main_v69 (F := Ideal) m c (ix2 r j) : EReal) = act (refShort m c) 4 r.val j.val := by
  pointwise [UpRefIdeal.Value.res_main_v69]
  refine congrArg₂ (· * ·) (congrArg (fun z : EReal => z * Ideal.div 1 (1 + Ideal.exp (-z))) (?_ : _ = conv (refShort m c) 4 (r.val / 4) (r.val % 4) j.val)) ?_
  · refine congrArg₂ (· + ·) (congrArg₂ (· + ·) (congrArg₂ (· + ·) (at1_of _ _ _ rfl) ?_) ?_) ?_
    · refine congrArg₂ (· * ·) (at2_of _ _ _ _ rfl rfl) ?_
      split
      · rename_i h; rw [ext_lo _ _ _ _ _ h]; exact at3_of _ _ _ _ _ rfl rfl rfl
      · rename_i h; rw [ext_hi _ _ _ _ _ (r.val / 4 * 4 + (r.val % 4 - 2)) h (by omega)]
        exact Finset.sum_congr rfl fun k _ => congrArg₂ (· * ·) (at2_of _ _ _ _ rfl rfl) (at3_of _ _ _ _ _ rfl rfl rfl)
    · refine congrArg₂ (· * ·) (at2_of _ _ _ _ rfl rfl) ?_
      split
      · rename_i h; rw [ext_lo _ _ _ _ _ (by omega)]; exact at3_of _ _ _ _ _ rfl (Nat.add_comm _ _) rfl
      · rename_i h; rw [ext_hi _ _ _ _ _ (r.val / 4 * 4 + (1 + r.val % 4 - 2)) (by omega) (by omega)]
        exact Finset.sum_congr rfl fun k _ => congrArg₂ (· * ·) (at2_of _ _ _ _ rfl rfl) (at3_of _ _ _ _ _ rfl rfl rfl)
    · refine congrArg₂ (· * ·) (at2_of _ _ _ _ rfl rfl) ?_
      rw [ext_hi _ _ _ _ _ r.val (by omega) (by omega)]
      exact Finset.sum_congr rfl fun k _ => congrArg₂ (· * ·) (at2_of _ _ _ _ rfl rfl) (at3_of _ _ _ _ _ rfl rfl rfl)
  · exact Finset.sum_congr rfl fun k _ => congrArg₂ (· * ·) (at2_of _ _ _ _ rfl rfl) (at3_of _ _ _ _ _ rfl rfl rfl)

/-- The plain program ends with the five results as described and its arguments unchanged. -/
theorem ref_values (ρ : Dev UpRefIdeal.nD → PrngReg) :
    θ_run UpRefIdeal.defs (onTc (τ := UpRefIdeal.τ) (UpRefIdeal.main (F := Ideal))) ⟨m, fun _ => 0, ρ⟩ fun r => ∀ c : Dev UpRefIdeal.nD,
      r.2.mem ((c.tc : Thread UpRefIdeal.nD UpRefIdeal.τ).loc UpRefIdeal.main_v35) = outLong (refLong m c)
      ∧ r.2.mem ((c.tc : Thread UpRefIdeal.nD UpRefIdeal.τ).loc UpRefIdeal.main_v36) = lastLong (refLong m c)
      ∧ r.2.mem ((c.tc : Thread UpRefIdeal.nD UpRefIdeal.τ).loc UpRefIdeal.main_v69) = outShort (refShort m c)
      ∧ r.2.mem ((c.tc : Thread UpRefIdeal.nD UpRefIdeal.τ).loc UpRefIdeal.main_v70) = lastShort (refShort m c)
      ∧ r.2.mem ((c.tc : Thread UpRefIdeal.nD UpRefIdeal.τ).loc UpRefIdeal.main_v73) = outW (m ((c.tc : Thread UpRefIdeal.nD UpRefIdeal.τ).loc UpRefIdeal.main_arg3))
      ∧ r.2.mem ((c.tc : Thread UpRefIdeal.nD UpRefIdeal.τ).loc UpRefIdeal.main_arg0) = m ((c.tc : Thread UpRefIdeal.nD UpRefIdeal.τ).loc UpRefIdeal.main_arg0)
      ∧ r.2.mem ((c.tc : Thread UpRefIdeal.nD UpRefIdeal.τ).loc UpRefIdeal.main_arg1) = m ((c.tc : Thread UpRefIdeal.nD UpRefIdeal.τ).loc UpRefIdeal.main_arg1)
      ∧ r.2.mem ((c.tc : Thread UpRefIdeal.nD UpRefIdeal.τ).loc UpRefIdeal.main_arg2) = m ((c.tc : Thread UpRefIdeal.nD UpRefIdeal.τ).loc UpRefIdeal.main_arg2)
      ∧ r.2.mem ((c.tc : Thread UpRefIdeal.nD UpRefIdeal.τ).loc UpRefIdeal.main_arg3) = m ((c.tc : Thread UpRefIdeal.nD UpRefIdeal.τ).loc UpRefIdeal.main_arg3)
      ∧ r.2.mem ((c.tc : Thread UpRefIdeal.nD UpRefIdeal.τ).loc UpRefIdeal.main_arg4) = m ((c.tc : Thread UpRefIdeal.nD UpRefIdeal.τ).loc UpRefIdeal.main_arg4)
      ∧ r.2.mem ((c.tc : Thread UpRefIdeal.nD UpRefIdeal.τ).loc UpRefIdeal.main_arg5) = m ((c.tc : Thread UpRefIdeal.nD UpRefIdeal.τ).loc UpRefIdeal.main_arg5)
      ∧ r.2.mem ((c.tc : Thread UpRefIdeal.nD UpRefIdeal.τ).loc UpRefIdeal.main_arg6) = m ((c.tc : Thread UpRefIdeal.nD UpRefIdeal.τ).loc UpRefIdeal.main_arg6)
      ∧ r.2.mem ((c.tc : Thread UpRefIdeal.nD UpRefIdeal.τ).loc UpRefIdeal.main_arg7) = m ((c.tc : Thread UpRefIdeal.nD UpRefIdeal.τ).loc UpRefIdeal.main_arg7) := by
  refine (θ_run UpRefIdeal.defs _ _).mono (fun r h c => ?_) (UpRefIdeal.Value.run (F := Ideal) m ρ)
  obtain ⟨h0, h1, h2, h3, h4, h5⟩ := h c
  refine ⟨h0.trans ?_, h1.trans ?_, h2.trans ?_, h3.trans ?_, h4.trans ?_, h5⟩
  · funext i
    obtain ⟨a, b, rfl⟩ : ∃ (a : Fin 8192) (b : Fin 11008), i = ix2 a b := ⟨i 0, i 1, eq_ix2 i⟩
    exact ref_long m c a b
  · funext i
    obtain ⟨a, b, k, rfl⟩ : ∃ (a : Fin 4) (b : Fin 2) (k : Fin 11008), i = ix3 a b k := ⟨i 0, i 1, i 2, eq_ix3 i⟩
    show _ = ext (refLong m c) 2048 a.val (2048 + b.val) k.val
    rw [ext_hi _ _ _ _ _ (2048 * a.val + (2048 + b.val - 2)) (by omega) rfl]
    clear h h0 h1 h2 h3 h4 h5
    pointwise []
    rw [dif_neg (by omega)]
    exact Finset.sum_congr rfl fun x _ => congrArg₂ (· * ·) (at2_of _ _ _ _ (by show a.val * 2048 + _ = _; omega) rfl) (at3_of _ _ _ _ _ rfl rfl rfl)
  · funext i
    obtain ⟨a, b, rfl⟩ : ∃ (a : Fin 32) (b : Fin 11008), i = ix2 a b := ⟨i 0, i 1, eq_ix2 i⟩
    exact ref_short m c a b
  · funext i
    obtain ⟨a, b, k, rfl⟩ : ∃ (a : Fin 8) (b : Fin 2) (k : Fin 11008), i = ix3 a b k := ⟨i 0, i 1, i 2, eq_ix3 i⟩
    show _ = ext (refShort m c) 4 a.val (4 + b.val) k.val
    rw [ext_hi _ _ _ _ _ (4 * a.val + (4 + b.val - 2)) (by omega) rfl]
    clear h h0 h1 h2 h3 h4 h5
    pointwise []
    rw [dif_neg (by omega)]
    exact Finset.sum_congr rfl fun x _ => congrArg₂ (· * ·) (at2_of _ _ _ _ (by show a.val * 4 + _ = _; omega) rfl) (at3_of _ _ _ _ _ rfl rfl rfl)
  · funext i
    obtain ⟨a, b, rfl⟩ : ∃ (a : Fin 11008) (b : Fin 4096), i = ix2 a b := ⟨i 0, i 1, eq_ix2 i⟩
    show _ = at3 (L := 2) (M := 11008) (N := 4096) (m ((c.tc : Thread UpRefIdeal.nD UpRefIdeal.τ).loc UpRefIdeal.main_arg3)) 0 a.val b.val
    clear h h0 h1 h2 h3 h4 h5
    pointwise []
    exact at3_of _ _ _ _ _ rfl rfl rfl

end Cert.UpIdeal.Block

end
-- ==== Proof.UpBlock.lean ====
/-
  The up projection: the five results of its grid as functions of its arrays, and their equality with the plain program's.
-/
module

public import proofs.«01_k».proof.Defs
public import proofs.«01_k».proof.Proof.UpInv
public import proofs.«01_k».proof.Proof.UpRef
public import Idealize.ShloMosaic.Lib.StableHlo.ReadAt

@[expose] public section

set_option maxHeartbeats 4000000
set_option maxRecDepth 16384

noncomputable section

namespace Cert.UpIdeal.Block

open Cert.UpIdeal Cert.UpIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Where the blocks of the results lie. -/
theorem offs12 : ∀ t : Fin cfg0.N, win0_12.index t 0 = (t.val - 1) % 8 ∧ win0_12.index t 1 = col (t.val - 1) ∧ win0_13.index t 0 = (t.val - 1) % 8 ∧ win0_13.index t 1 = 0 ∧ win0_13.index t 2 = col (t.val - 1) :=
  (by decide +kernel : ∀ t : Fin grid0.N, win0_12.index t 0 = (t.val - 1) % 8 ∧ win0_12.index t 1 = col (t.val - 1) ∧ win0_13.index t 0 = (t.val - 1) % 8 ∧ win0_13.index t 1 = 0 ∧ win0_13.index t 2 = col (t.val - 1))
/-- Where a point's blocks of short results and of down weights begin in the results. -/
theorem offs14 : ∀ t : Fin cfg0.N, win0_14.index t 0 = 0 ∧ win0_14.index t 1 = col t.val ∧ win0_15.index t 0 = 0 ∧ win0_15.index t 1 = col t.val ∧ win0_16.index t 0 = min t.val 343 ∧ win0_16.index t 1 = 0 :=
  (by decide +kernel : ∀ t : Fin grid0.N, win0_14.index t 0 = 0 ∧ win0_14.index t 1 = col t.val ∧ win0_15.index t 0 = 0 ∧ win0_15.index t 1 = col t.val ∧ win0_16.index t 0 = min t.val 343 ∧ win0_16.index t 1 = 0)

/-- When result window 12 is written back. -/
theorem flush12 : ∀ t : Fin cfg0.N, (cfg0.win 12).flush t = true ↔ (t.val ≠ 0) :=
  (by decide +kernel : ∀ t : Fin grid0.N, win0_12.flush t = true ↔ (t.val ≠ 0))

/-- When result window 13 is written back. -/
theorem flush13 : ∀ t : Fin cfg0.N, (cfg0.win 13).flush t = true ↔ (t.val ≠ 0) :=
  (by decide +kernel : ∀ t : Fin grid0.N, win0_13.flush t = true ↔ (t.val ≠ 0))

/-- When result window 14 is written back. -/
theorem flush14 : ∀ t : Fin cfg0.N, (cfg0.win 14).flush t = true ↔ ((t.val % 8 = 7 ∧ t.val ≠ 343) ∨ t.val = 344) :=
  (by decide +kernel : ∀ t : Fin grid0.N, win0_14.flush t = true ↔ ((t.val % 8 = 7 ∧ t.val ≠ 343) ∨ t.val = 344))

/-- When result window 15 is written back. -/
theorem flush15 : ∀ t : Fin cfg0.N, (cfg0.win 15).flush t = true ↔ ((t.val % 8 = 7 ∧ t.val ≠ 343) ∨ t.val = 344) :=
  (by decide +kernel : ∀ t : Fin grid0.N, win0_15.flush t = true ↔ ((t.val % 8 = 7 ∧ t.val ≠ 343) ∨ t.val = 344))

/-- When result window 16 is written back. -/
theorem flush16 : ∀ t : Fin cfg0.N, (cfg0.win 16).flush t = true ↔ (t.val ≠ 343) :=
  (by decide +kernel : ∀ t : Fin grid0.N, win0_16.flush t = true ↔ (t.val ≠ 343))

/-- The results of a tile from the state that its own point left. -/
theorem tileA_at (c : Dev nD) (t : Fin cfg0.N) (h : t.val ≠ 0) (a : Fin 1024) (b : Fin 256) :
    (tileA (F := Ideal) (stAt m c t.val).v (stAt m c t.val).g (iblk m c 8 t) (iblk m c 9 t) (ix2 a b) : EReal)
      = act (long m c) 2048 (1024 * ((t.val - 1) % 8) + a.val) (256 * col (t.val - 1) + b.val) := by
  have hN : cfg0.N = 345 := N_0
  have hlt := t.isLt
  have G := good m c (t.val - 1) ⟨t.val - 1, by omega⟩ rfl
  have e : t.val - 1 + 1 = t.val := by omega
  simp only [e] at G
  have ha := a.isLt
  rw [tileA_apply]
  unfold elA act
  refine congrArg₂ glu ?_ (G.v a b)
  have eb : (1024 * ((t.val - 1) % 8) + a.val) / 2048 = (t.val - 1) % 8 / 2 := by omega
  have et : (1024 * ((t.val - 1) % 8) + a.val) % 2048 = 1024 * ((t.val - 1) % 2) + a.val := by omega
  rw [eb, et]
  unfold elZ conv
  refine congrArg₂ (· + ·) (congrArg₂ (· + ·) (congrArg₂ (· + ·) (blk9 m c t b) (congrArg₂ (· * ·) (blk8 m c t 0 0 rfl b) ?_)) (congrArg₂ (· * ·) (blk8 m c t 1 1 rfl b) ?_)) (congrArg₂ (· * ·) (blk8 m c t 2 2 rfl b) ?_)
  · refine (G.g ⟨a.val + 6, by omega⟩ b (by show 6 ≤ a.val + 6; omega)).trans ?_
    congr 1
  · refine (G.g ⟨a.val + 7, by omega⟩ b (by show 6 ≤ a.val + 7; omega)).trans ?_
    congr 1
  · refine (G.g ⟨a.val + 8, by omega⟩ b (by show 6 ≤ a.val + 8; omega)).trans ?_
    congr 1

/-- The last gates of every tile: eight rows for each of the eight tiles of a column. -/
def lastRows (A : Args) (i : (⟨3, ![8, 8, 11008]⟩ : Shape).Idx) : EReal := ext A 2048 ((i 0).val / 2) (1024 * ((i 0).val % 2) + (1018 + (i 1).val)) (i 2).val
/-- The short sequences' gates. -/
def gatesShort (A : Args) (i : (⟨2, ![32, 11008]⟩ : Shape).Idx) : EReal := gate A (i 0).val (i 1).val

/-- The whole array of result window 12. -/
abbrev whole12 (c : Dev nD) : Buf (Elt Ideal) ((c : Thread nD τ).loc main_v29_0) := outLong (long m c)

/-- The whole array of result window 13. -/
abbrev whole13 (c : Dev nD) : Buf (Elt Ideal) ((c : Thread nD τ).loc main_v29_1) := lastRows (long m c)

/-- The whole array of result window 14. -/
abbrev whole14 (c : Dev nD) : Buf (Elt Ideal) ((c : Thread nD τ).loc main_v29_2) := outShort (short m c)

/-- The whole array of result window 15. -/
abbrev whole15 (c : Dev nD) : Buf (Elt Ideal) ((c : Thread nD τ).loc main_v29_3) := gatesShort (short m c)

/-- The whole array of result window 16. -/
abbrev whole16 (c : Dev nD) : Buf (Elt Ideal) ((c : Thread nD τ).loc main_v29_4) := outW (m ((c : Thread nD τ).loc main_arg3))

/-- What a point writes back to result window 12 is its block of the whole array. -/
theorem flushed12 (c : Dev nD) (t : Fin cfg0.N) (hf : (cfg0.win 12).flush t = true) :
    (dats m 0 c).flushed 12 t = (win0_12.blk t).view.read (Elt Ideal) (whole12 m c) := by
  show (cfg0.win 12).cut (grid0.coords t) ((dats m 0 c).after 12 t) = _
  rw [after12]
  funext y
  obtain ⟨a, b, rfl⟩ : ∃ (a : Fin 1024) (b : Fin 256), y = ix2 a b := ⟨y 0, y 1, eq_ix2 y⟩
  obtain ⟨e0, e1, -⟩ := offs12 t
  refine (tileA_at m c t ((flush12 t).1 hf) a b).trans ?_
  show _ = act (long m c) 2048 (win0_12.index t 0 * 1024 + 1 * a.val) (win0_12.index t 1 * 256 + 1 * b.val)
  rw [e0, e1]
  congr 1 <;> omega

/-- What a point writes back to result window 13 is its block of the whole array. -/
theorem flushed13 (c : Dev nD) (t : Fin cfg0.N) (hf : (cfg0.win 13).flush t = true) :
    (dats m 0 c).flushed 13 t = (win0_13.blk t).view.read (Elt Ideal) (whole13 m c) := by
  show (cfg0.win 13).cut (grid0.coords t) ((dats m 0 c).after 13 t) = _
  rw [after13]
  funext y
  obtain ⟨z, a, b, rfl⟩ : ∃ (z : Fin 1) (a : Fin 8) (b : Fin 256), y = ix3 z a b := ⟨y 0, y 1, y 2, eq_ix3 y⟩
  obtain rfl : z = 0 := Subsingleton.elim _ _
  obtain ⟨-, -, e0, e1, e2⟩ := offs12 t
  have h := (flush13 t).1 hf
  have hN : cfg0.N = 345 := N_0
  have hlt := t.isLt
  have G := good m c (t.val - 1) ⟨t.val - 1, by omega⟩ rfl
  have e : t.val - 1 + 1 = t.val := by omega
  simp only [e] at G
  refine (tileS_apply _ a b).trans ?_
  refine (G.g ⟨1024 + a.val, by omega⟩ b (by show 6 ≤ 1024 + a.val; omega)).trans ?_
  show ext (long m c) 2048 ((t.val - 1) % 8 / 2) (1024 * ((t.val - 1) % 2) + (1024 + a.val - 6)) (256 * col (t.val - 1) + b.val)
    = ext (long m c) 2048 ((win0_13.index t 0 * 1 + 1 * 0) / 2) (1024 * ((win0_13.index t 0 * 1 + 1 * 0) % 2) + (1018 + (win0_13.index t 1 * 8 + 1 * a.val))) (win0_13.index t 2 * 256 + 1 * b.val)
  rw [e0, e1, e2]
  congr 1 <;> omega

/-- What a point writes back to result window 14 is its block of the whole array. -/
theorem flushed14 (c : Dev nD) (t : Fin cfg0.N) (hf : (cfg0.win 14).flush t = true) :
    (dats m 0 c).flushed 14 t = (win0_14.blk t).view.read (Elt Ideal) (whole14 m c) := by
  show (cfg0.win 14).cut (grid0.coords t) ((dats m 0 c).after 14 t) = _
  rw [after14]
  funext y
  obtain ⟨a, b, rfl⟩ : ∃ (a : Fin 32) (b : Fin 256), y = ix2 a b := ⟨y 0, y 1, eq_ix2 y⟩
  obtain ⟨e0, e1, -⟩ := offs14 t
  refine ((good m c t.val t rfl).sa a b).trans ?_
  show _ = act (short m c) 4 (win0_14.index t 0 * 32 + 1 * a.val) (win0_14.index t 1 * 256 + 1 * b.val)
  rw [e0, e1]
  congr 1 <;> omega

/-- What a point writes back to result window 15 is its block of the whole array. -/
theorem flushed15 (c : Dev nD) (t : Fin cfg0.N) (hf : (cfg0.win 15).flush t = true) :
    (dats m 0 c).flushed 15 t = (win0_15.blk t).view.read (Elt Ideal) (whole15 m c) := by
  show (cfg0.win 15).cut (grid0.coords t) ((dats m 0 c).after 15 t) = _
  rw [after15]
  funext y
  obtain ⟨a, b, rfl⟩ : ∃ (a : Fin 32) (b : Fin 256), y = ix2 a b := ⟨y 0, y 1, eq_ix2 y⟩
  obtain ⟨-, -, e0, e1, -⟩ := offs14 t
  refine ((good m c t.val t rfl).sg a b).trans ?_
  show _ = gate (short m c) (win0_15.index t 0 * 32 + 1 * a.val) (win0_15.index t 1 * 256 + 1 * b.val)
  rw [e0, e1]
  congr 1 <;> omega

/-- What a point writes back to result window 16 is its block of the whole array. -/
theorem flushed16 (c : Dev nD) (t : Fin cfg0.N) (hf : (cfg0.win 16).flush t = true) :
    (dats m 0 c).flushed 16 t = (win0_16.blk t).view.read (Elt Ideal) (whole16 m c) := by
  show (cfg0.win 16).cut (grid0.coords t) ((dats m 0 c).after 16 t) = _
  rw [after16]
  funext y
  obtain ⟨a, b, rfl⟩ : ∃ (a : Fin 32) (b : Fin 4096), y = ix2 a b := ⟨y 0, y 1, eq_ix2 y⟩
  obtain ⟨-, -, -, -, e0, e1⟩ := offs14 t
  refine (tileD_apply _ a b).trans ((blk11 m c t a b).trans ?_)
  show _ = at3 (L := 2) (M := 11008) (N := 4096) (m ((c : Thread nD τ).loc main_arg3)) 0 (win0_16.index t 0 * 32 + 1 * a.val) (win0_16.index t 1 * 4096 + 1 * b.val)
  rw [e0, e1]
  congr 1 <;> omega

/-- Every element of result window 12's array lies in the block of a point that writes back. -/
theorem cover12 (i : S8192x11008.Idx) : ∃ t : Fin cfg0.N, (cfg0.win 12).flush t = true ∧ i ∈ ((cfg0.win 12).blk t).view.set := by
  have h0 : (i 0 : ℕ) < 8192 := (i 0).isLt
  have h1 : (i 1 : ℕ) < 11008 := (i 1).isLt
  have hN : cfg0.N = 345 := N_0
  obtain ⟨t, ht⟩ : ∃ t : Fin cfg0.N, t.val = (i 1 : ℕ) / 256 * 8 + (i 0 : ℕ) / 1024 + 1 := ⟨⟨_, by omega⟩, rfl⟩
  refine ⟨t, (flush12 t).2 (by omega), ?_⟩
  show i ∈ ((View.whole main_v29_0).slice (win0_12.rect t)).set
  rw [View.set_slice_whole, Rect.mem_set_unit]
  obtain ⟨e0, e1, -⟩ := offs12 t
  intro a
  match a with
  | ⟨0, _⟩ =>
    show win0_12.index t 0 * 1024 ≤ (i 0 : ℕ) ∧ (i 0 : ℕ) < win0_12.index t 0 * 1024 + 1024
    rw [e0]; omega
  | ⟨1, _⟩ =>
    show win0_12.index t 1 * 256 ≤ (i 1 : ℕ) ∧ (i 1 : ℕ) < win0_12.index t 1 * 256 + 256
    rw [e1]; unfold col; omega

/-- The array of result window 12 after the run. -/
theorem final12 (c : Dev nD) : (dats m 0 c).arrAt 12 cfg0.N = whole12 m c :=
  (dats m 0 c).arrAt_eq_of_cover 12 (whole12 m c) (fun t hf => flushed12 m c t hf) cover12

/-- Every element of result window 13's array lies in the block of a point that writes back. -/
theorem cover13 (i : S8x8x11008.Idx) : ∃ t : Fin cfg0.N, (cfg0.win 13).flush t = true ∧ i ∈ ((cfg0.win 13).blk t).view.set := by
  have h0 : (i 0 : ℕ) < 8 := (i 0).isLt
  have h1 : (i 1 : ℕ) < 8 := (i 1).isLt
  have h2 : (i 2 : ℕ) < 11008 := (i 2).isLt
  have hN : cfg0.N = 345 := N_0
  obtain ⟨t, ht⟩ : ∃ t : Fin cfg0.N, t.val = (i 2 : ℕ) / 256 * 8 + (i 0 : ℕ) + 1 := ⟨⟨_, by omega⟩, rfl⟩
  refine ⟨t, (flush13 t).2 (by omega), ?_⟩
  show i ∈ ((View.whole main_v29_1).slice (win0_13.rect t)).set
  rw [View.set_slice_whole, Rect.mem_set_unit]
  obtain ⟨-, -, e0, e1, e2⟩ := offs12 t
  intro a
  match a with
  | ⟨0, _⟩ =>
    show win0_13.index t 0 * 1 ≤ (i 0 : ℕ) ∧ (i 0 : ℕ) < win0_13.index t 0 * 1 + 1
    rw [e0]; omega
  | ⟨1, _⟩ =>
    show win0_13.index t 1 * 8 ≤ (i 1 : ℕ) ∧ (i 1 : ℕ) < win0_13.index t 1 * 8 + 8
    rw [e1]; omega
  | ⟨2, _⟩ =>
    show win0_13.index t 2 * 256 ≤ (i 2 : ℕ) ∧ (i 2 : ℕ) < win0_13.index t 2 * 256 + 256
    rw [e2]; unfold col; omega

/-- The array of result window 13 after the run. -/
theorem final13 (c : Dev nD) : (dats m 0 c).arrAt 13 cfg0.N = whole13 m c :=
  (dats m 0 c).arrAt_eq_of_cover 13 (whole13 m c) (fun t hf => flushed13 m c t hf) cover13

/-- Every element of result window 14's array lies in the block of a point that writes back. -/
theorem cover14 (i : S32x11008.Idx) : ∃ t : Fin cfg0.N, (cfg0.win 14).flush t = true ∧ i ∈ ((cfg0.win 14).blk t).view.set := by
  have h0 : (i 0 : ℕ) < 32 := (i 0).isLt
  have h1 : (i 1 : ℕ) < 11008 := (i 1).isLt
  have hN : cfg0.N = 345 := N_0
  obtain ⟨t, ht⟩ : ∃ t : Fin cfg0.N, t.val = (i 1 : ℕ) / 256 * 8 + 7 + (i 1 : ℕ) / 256 / 42 := ⟨⟨_, by omega⟩, rfl⟩
  refine ⟨t, (flush14 t).2 ?_, ?_⟩
  · by_cases hx : (i 1 : ℕ) / 256 < 42
    · have hz : (i 1 : ℕ) / 256 / 42 = 0 := Nat.div_eq_of_lt hx
      rw [hz] at ht
      exact Or.inl (by constructor <;> omega)
    · exact Or.inr (by omega)
  show i ∈ ((View.whole main_v29_2).slice (win0_14.rect t)).set
  rw [View.set_slice_whole, Rect.mem_set_unit]
  obtain ⟨e0, e1, -⟩ := offs14 t
  intro a
  match a with
  | ⟨0, _⟩ =>
    show win0_14.index t 0 * 32 ≤ (i 0 : ℕ) ∧ (i 0 : ℕ) < win0_14.index t 0 * 32 + 32
    rw [e0]; omega
  | ⟨1, _⟩ =>
    show win0_14.index t 1 * 256 ≤ (i 1 : ℕ) ∧ (i 1 : ℕ) < win0_14.index t 1 * 256 + 256
    rw [e1]; unfold col; omega

/-- The array of result window 14 after the run. -/
theorem final14 (c : Dev nD) : (dats m 0 c).arrAt 14 cfg0.N = whole14 m c :=
  (dats m 0 c).arrAt_eq_of_cover 14 (whole14 m c) (fun t hf => flushed14 m c t hf) cover14

/-- Every element of result window 15's array lies in the block of a point that writes back. -/
theorem cover15 (i : S32x11008.Idx) : ∃ t : Fin cfg0.N, (cfg0.win 15).flush t = true ∧ i ∈ ((cfg0.win 15).blk t).view.set := by
  have h0 : (i 0 : ℕ) < 32 := (i 0).isLt
  have h1 : (i 1 : ℕ) < 11008 := (i 1).isLt
  have hN : cfg0.N = 345 := N_0
  obtain ⟨t, ht⟩ : ∃ t : Fin cfg0.N, t.val = (i 1 : ℕ) / 256 * 8 + 7 + (i 1 : ℕ) / 256 / 42 := ⟨⟨_, by omega⟩, rfl⟩
  refine ⟨t, (flush15 t).2 ?_, ?_⟩
  · by_cases hx : (i 1 : ℕ) / 256 < 42
    · have hz : (i 1 : ℕ) / 256 / 42 = 0 := Nat.div_eq_of_lt hx
      rw [hz] at ht
      exact Or.inl (by constructor <;> omega)
    · exact Or.inr (by omega)
  show i ∈ ((View.whole main_v29_3).slice (win0_15.rect t)).set
  rw [View.set_slice_whole, Rect.mem_set_unit]
  obtain ⟨-, -, e0, e1, -⟩ := offs14 t
  intro a
  match a with
  | ⟨0, _⟩ =>
    show win0_15.index t 0 * 32 ≤ (i 0 : ℕ) ∧ (i 0 : ℕ) < win0_15.index t 0 * 32 + 32
    rw [e0]; omega
  | ⟨1, _⟩ =>
    show win0_15.index t 1 * 256 ≤ (i 1 : ℕ) ∧ (i 1 : ℕ) < win0_15.index t 1 * 256 + 256
    rw [e1]; unfold col; omega

/-- The array of result window 15 after the run. -/
theorem final15 (c : Dev nD) : (dats m 0 c).arrAt 15 cfg0.N = whole15 m c :=
  (dats m 0 c).arrAt_eq_of_cover 15 (whole15 m c) (fun t hf => flushed15 m c t hf) cover15

/-- Every element of result window 16's array lies in the block of a point that writes back. -/
theorem cover16 (i : S11008x4096.Idx) : ∃ t : Fin cfg0.N, (cfg0.win 16).flush t = true ∧ i ∈ ((cfg0.win 16).blk t).view.set := by
  have h0 : (i 0 : ℕ) < 11008 := (i 0).isLt
  have h1 : (i 1 : ℕ) < 4096 := (i 1).isLt
  have hN : cfg0.N = 345 := N_0
  obtain ⟨t, ht⟩ : ∃ t : Fin cfg0.N, t.val = (i 0 : ℕ) / 32 + (i 0 : ℕ) / 32 / 343 := ⟨⟨_, by omega⟩, rfl⟩
  refine ⟨t, (flush16 t).2 (by omega), ?_⟩
  show i ∈ ((View.whole main_v29_4).slice (win0_16.rect t)).set
  rw [View.set_slice_whole, Rect.mem_set_unit]
  obtain ⟨-, -, -, -, e0, e1⟩ := offs14 t
  intro a
  match a with
  | ⟨0, _⟩ =>
    show win0_16.index t 0 * 32 ≤ (i 0 : ℕ) ∧ (i 0 : ℕ) < win0_16.index t 0 * 32 + 32
    rw [e0]; omega
  | ⟨1, _⟩ =>
    show win0_16.index t 1 * 4096 ≤ (i 1 : ℕ) ∧ (i 1 : ℕ) < win0_16.index t 1 * 4096 + 4096
    rw [e1]; omega

/-- The array of result window 16 after the run. -/
theorem final16 (c : Dev nD) : (dats m 0 c).arrAt 16 cfg0.N = whole16 m c :=
  (dats m 0 c).arrAt_eq_of_cover 16 (whole16 m c) (fun t hf => flushed16 m c t hf) cover16

/-- The arrays after the grid, where the operations after it read them. -/
theorem tail_in (c : Dev nD) (w : Fin cfg0.W) :
    Pipeline.withArrays (cfgs 0).spec c (V0 m c) (fun w => (dats m 0 c).arrAt w (cfgs 0).N) (Proc.devRef .tc (Pipeline.arrRef spec0 w)) = (dats m 0 c).arrAt w cfg0.N :=
  Pipeline.withArrays_arr_shared spec0 c (V0 m c) _ (Pipeline.Dat.arrAt_sharedIn (dats m 0 c) sharedIn0 (V0 m c) (fun w => A_eq m c w) cfg0.N) w

/-- The last two gates of every long sequence, as the operations after the grid cut them out. -/
theorem tail_long (c : Dev nD) : Pipeline.afterTail₀ cfgs (dats m) 0 (V0 m) [hostOps1] c main_v30 = lastLong (long m c) := by
  unfold Pipeline.afterTail₀
  funext i
  obtain ⟨a, b, k, rfl⟩ : ∃ (a : Fin 4) (b : Fin 2) (k : Fin 11008), i = ix3 a b k := ⟨i 0, i 1, i 2, eq_ix3 i⟩
  after_reads_at
  refine (congrFun (tail_in m c 13) _).trans ?_
  rw [final13]
  show ext (long m c) 2048 ((1 + 2 * a.val) / 2) (1024 * ((1 + 2 * a.val) % 2) + (1018 + (6 + b.val))) k.val = ext (long m c) 2048 a.val (2048 + b.val) k.val
  congr 1 <;> omega

/-- The last two gates of every short sequence, likewise. -/
theorem tail_short (c : Dev nD) : Pipeline.afterTail₀ cfgs (dats m) 0 (V0 m) [hostOps1] c main_v32 = lastShort (short m c) := by
  unfold Pipeline.afterTail₀
  funext i
  obtain ⟨a, b, k, rfl⟩ : ∃ (a : Fin 8) (b : Fin 2) (k : Fin 11008), i = ix3 a b k := ⟨i 0, i 1, i 2, eq_ix3 i⟩
  after_reads_at
  refine (congrFun (tail_in m c 15) _).trans ?_
  rw [final15]
  show gate (short m c) (a.val * 4 + (2 + b.val)) k.val = ext (short m c) 4 a.val (4 + b.val) k.val
  rw [ext_hi _ _ _ _ _ (a.val * 4 + (2 + b.val)) (by omega) (by omega)]

/-- The tiled up projection ends with the five results as described and its arguments unchanged. -/
theorem run_values : θ_run defs (onTc (τ := τ) (main (F := Ideal))) ⟨m, fun _ => 0, ρ⟩ fun r => ∀ c : Dev nD,
      r.2.mem ((c.tc : Thread nD τ).loc main_v29_0) = outLong (long m c)
      ∧ r.2.mem ((c.tc : Thread nD τ).loc main_v30) = lastLong (long m c)
      ∧ r.2.mem ((c.tc : Thread nD τ).loc main_v29_2) = outShort (short m c)
      ∧ r.2.mem ((c.tc : Thread nD τ).loc main_v32) = lastShort (short m c)
      ∧ r.2.mem ((c.tc : Thread nD τ).loc main_v29_4) = outW (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (Idealize.ShloMosaic.θ_run_and (unchanged m ρ) (run_quiescent m ρ))
  obtain ⟨hu, hp, -⟩ := h
  exact ⟨((hp c).1 12).trans (final12 m c), ((hp c).2 main_v30 (Pipeline.mem_restRefs_of main_v30 (by decide) (by decide))).trans (tail_long m c),
    ((hp c).1 14).trans (final14 m c), ((hp c).2 main_v32 (Pipeline.mem_restRefs_of main_v32 (by decide) (by decide))).trans (tail_short m c),
    ((hp c).1 16).trans (final16 m c), hu c⟩

/-- The tiled up projection and the plain one, run from memories that agree on the arguments, end with equal results. -/
theorem algebraic : Cert.algebraic_UpIdeal_UpRefIdeal := by
  intro m g m' g' _ hag
  refine ⟨fun c => outLong (long m c), fun c => lastLong (long m c), fun c => outShort (short m c), fun c => lastShort (short m c),
    fun c => outW (m ((c.tc : Thread nD τ).loc main_arg3)), run_values m g, ?_⟩
  refine (θ_run Cert.UpRefIdeal.defs _ _).mono (fun r h c => ?_) (ref_values m' g')
  obtain ⟨h0, h1, h2, h3, h4, h5⟩ := h c
  obtain ⟨g0, g1, g2, g3, g4, g5, g6, g7⟩ := hag c
  have eL : refLong m' c = long m c := by unfold refLong long; rw [g0, g2, g4, g5, g6]
  have eS : refShort m' c = short m c := by unfold refShort short; rw [g1, g2, g4, g5, g7]
  rw [eL] at h0 h1
  rw [eS] at h2 h3
  rw [g3] at h4
  exact ⟨h0, h1, h2, h3, h4, h5⟩

/-- The plain up projection terminates, leaves its arguments as they were and no semaphore raised. -/
theorem frame_ref : Cert.quiescent_UpRefIdeal := by
  intro m g _
  exact (θ_run Cert.UpRefIdeal.defs _ _).mono
    (fun r h => ⟨fun c => (h c).2.2.2.2.2, Idealize.ShloMosaic.sem_eq_zero_of_no_sems (by decide) r.2⟩)
    (Cert.UpRefIdeal.Value.run (F := Ideal) m g)

end Cert.UpIdeal.Block

end
-- ==== Proof.lean ====
/- The claims of this directory, put together from the modules that prove them. -/
module

public import proofs.«01_k».proof.Defs
public import Idealize.ShloMosaic.Adequacy
public import Idealize.ShloMosaic.Init
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluIdeal.Value
public import proofs.«01_k».proof.Proof.Gen.GluRefIdeal
public import proofs.«01_k».proof.Proof.Gen.GluRefIdeal.Run
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.Query
public import proofs.«01_k».proof.Proof.Gen.Query.Skeleton
public import proofs.«01_k».proof.Proof.Gen.Query.Launch
public import proofs.«01_k».proof.Proof.Gen.Query.Points
public import proofs.«01_k».proof.Proof.Gen.Query.Frame
public import proofs.«01_k».proof.Proof.Gen.QueryIdeal
public import proofs.«01_k».proof.Proof.Gen.QueryIdeal.Skeleton
public import proofs.«01_k».proof.Proof.Gen.QueryIdeal.Launch
public import proofs.«01_k».proof.Proof.Gen.QueryIdeal.Points
public import proofs.«01_k».proof.Proof.Gen.QueryIdeal.Frame
public import proofs.«01_k».proof.Proof.Gen.QueryIdeal.Value
public import proofs.«01_k».proof.Proof.Gen.QueryRefIdeal
public import proofs.«01_k».proof.Proof.Gen.QueryRefIdeal.Run
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.UpRefIdeal.Run
public import proofs.«01_k».proof.Proof.DownBlock
public import proofs.«01_k».proof.Proof.GluBlock
public import proofs.«01_k».proof.Proof.OutBlock
public import proofs.«01_k».proof.Proof.QueryBlock
public import proofs.«01_k».proof.Proof.UpBlock
public import proofs.«01_k».proof.Proof.UpData

@[expose] public section

noncomputable section

namespace Cert.Proof

open Idealize.ShloMosaic Idealize.SL.Sem

/-- All the claims: the stated facts of the programs, then each program's frame, then each idealization and each value claim. -/
theorem claim : Cert.Claim := ⟨Cert.Down.Gen.facts, Cert.DownIdeal.Gen.facts, Cert.DownRefIdeal.Gen.facts, Cert.Glu.Gen.facts, Cert.GluIdeal.Gen.facts, Cert.GluRefIdeal.Gen.facts, Cert.Out.Gen.facts, Cert.OutIdeal.Gen.facts, Cert.OutRefIdeal.Gen.facts, Cert.Query.Gen.facts, Cert.QueryIdeal.Gen.facts, Cert.QueryRefIdeal.Gen.facts, Cert.Up.Gen.facts, Cert.UpIdeal.Gen.facts, Cert.UpRefIdeal.Gen.facts,
  fun m ρ _ => Cert.Down.Gen.frame m ρ, fun m ρ _ => Cert.DownIdeal.Gen.frame m ρ, Cert.DownIdeal.Block.frame_ref,
  fun m ρ _ => Cert.Glu.Gen.frame m ρ, fun m ρ _ => Cert.GluIdeal.Gen.frame m ρ, Cert.GluIdeal.Block.frame_ref,
  fun m ρ _ => Cert.Out.Gen.frame m ρ, fun m ρ _ => Cert.OutIdeal.Gen.frame m ρ, Cert.OutIdeal.Block.frame_ref,
  fun m ρ _ => Cert.Query.Gen.frame m ρ, fun m ρ _ => Cert.QueryIdeal.Gen.frame m ρ, Cert.QueryIdeal.Block.frame_ref,
  fun m ρ _ => Cert.Up.Block.frame_all m ρ, fun m ρ _ => Cert.UpIdeal.Block.frame_all m ρ, Cert.UpIdeal.Block.frame_ref,
  trivial, Cert.DownIdeal.Block.algebraic,
  trivial, Cert.GluIdeal.Block.algebraic,
  trivial, Cert.OutIdeal.Block.algebraic,
  trivial, Cert.QueryIdeal.Block.algebraic,
  trivial, Cert.UpIdeal.Block.algebraic⟩

end Cert.Proof

end
